-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pe_is_table [hPre_pe_is_table : Cert.Pre_pe_is_table.Facts] (m : (ℓ : Loc Cert.KernelIdeal.nD Cert.KernelIdeal.τ Cert.KernelIdeal.sig) → Buf (Elt Ideal) ℓ) : Prop :=
  ∀ c : Dev Cert.KernelIdeal.nD,
    (Cert.Pre_pe_is_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_TableIdeal (m : (ℓ : Loc Cert.TableIdeal.nD Cert.TableIdeal.τ Cert.TableIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_pe_is_table [hPre_pe_is_table : Cert.Pre_pe_is_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pe_is_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pe_is_table [hKernelIdeal : Cert.KernelIdeal.Facts] [hPre_pe_is_table : Cert.Pre_pe_is_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pe_is_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pe_is_table [hReferenceIdeal : Cert.ReferenceIdeal.Facts] [hPre_pe_is_table : Cert.Pre_pe_is_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pe_is_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_TableIdeal [hKernelIdeal : Cert.KernelIdeal.Facts] [hTableIdeal : Cert.TableIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TableIdeal.nD Cert.TableIdeal.τ Cert.TableIdeal.sig) → Buf (Elt Ideal) ℓ) (g' : Dev Cert.TableIdeal.nD → PrngReg), Pre_KernelIdeal m →
    (∀ c : Dev Cert.KernelIdeal.nD,
      m' ((c.tc : Thread Cert.TableIdeal.nD Cert.TableIdeal.τ).loc Cert.TableIdeal.main_arg0) = m ((c.tc : Thread Cert.KernelIdeal.nD Cert.KernelIdeal.τ).loc Cert.KernelIdeal.main_arg0)
      ∧ m' ((c.tc : Thread Cert.TableIdeal.nD Cert.TableIdeal.τ).loc Cert.TableIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.TableIdeal.defs (F := Ideal)) (onTc (τ := Cert.TableIdeal.τ) (Cert.TableIdeal.main (F := Ideal))) ⟨m', fun _ => 0, g'⟩ (fun r => ∀ c : Dev Cert.TableIdeal.nD,
          r.2.mem ((c.tc : Thread Cert.TableIdeal.nD Cert.TableIdeal.τ).loc Cert.TableIdeal.main_v20) = v0 c
          ∧ r.2.mem ((c.tc : Thread Cert.TableIdeal.nD Cert.TableIdeal.τ).loc Cert.TableIdeal.main_arg0) = m' ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m' ((c.tc : Thread Cert.TableIdeal.nD Cert.TableIdeal.τ).loc Cert.TableIdeal.main_arg1))

def algebraic_KernelIdeal_ReferenceIdeal_pre_pe_is_table [hKernelIdeal : Cert.KernelIdeal.Facts] [hReferenceIdeal : Cert.ReferenceIdeal.Facts] [hPre_pe_is_table : Cert.Pre_pe_is_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pe_is_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hTableIdeal : Cert.TableIdeal.Facts) (hReferenceIdeal : Cert.ReferenceIdeal.Facts) (hPre_pe_is_table : Cert.Pre_pe_is_table.Facts),
    quiescent_Kernel (hKernel := hKernel)
    ∧ quiescent_KernelIdeal (hKernelIdeal := hKernelIdeal)
    ∧ quiescent_KernelIdeal_pre_pe_is_table (hKernelIdeal := hKernelIdeal) (hPre_pe_is_table := hPre_pe_is_table)
    ∧ quiescent_TableIdeal (hTableIdeal := hTableIdeal)
    ∧ quiescent_ReferenceIdeal (hReferenceIdeal := hReferenceIdeal)
    ∧ quiescent_ReferenceIdeal_pre_pe_is_table (hReferenceIdeal := hReferenceIdeal) (hPre_pe_is_table := hPre_pe_is_table)
    ∧ preserves_Kernel_KernelIdeal
    ∧ algebraic_KernelIdeal_TableIdeal (hKernelIdeal := hKernelIdeal) (hTableIdeal := hTableIdeal)
    ∧ algebraic_KernelIdeal_ReferenceIdeal_pre_pe_is_table (hKernelIdeal := hKernelIdeal) (hReferenceIdeal := hReferenceIdeal) (hPre_pe_is_table := hPre_pe_is_table)
-- ==== Pre_pe_is_table.lean ====
abbrev S4x8192x1024 : Shape := ⟨3, ![4, 8192, 1024]⟩
abbrev S1x8192x1024 : Shape := ⟨3, ![1, 8192, 1024]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x512x1 : Shape := ⟨3, ![8192, 512, 1]⟩
abbrev S8192x512x2 : Shape := ⟨3, ![8192, 512, 2]⟩
abbrev S8192x1024 : Shape := ⟨2, ![8192, 1024]⟩

class Facts : Prop where
  bcast_S8192_S8192x1_0 : S8192.BroadcastsInDim S8192x1 (![0] : Fin 1 → Fin S8192x1.rank)
  bcast_S_S512 : S_.BroadcastsInDim S512 (![] : Fin 0 → Fin S512.rank)
  bcast_S512_S1x512_1 : S512.BroadcastsInDim S1x512 (![1] : Fin 1 → Fin S1x512.rank)
  bcast_S8192x1_S8192x512_0_1 : S8192x1.BroadcastsInDim S8192x512 (![0, 1] : Fin 2 → Fin S8192x512.rank)
  bcast_S1x512_S8192x512_0_1 : S1x512.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  shapeCasts_S8192x512x2_S8192x1024 : S8192x512x2.ShapeCasts S8192x1024
  bcast_S8192x1024_S1x8192x1024_1_2 : S8192x1024.BroadcastsInDim S1x8192x1024 (![1, 2] : Fin 2 → Fin S1x8192x1024.rank)

variable [Facts]

def fn_part1 {F : FTy → Type} [FloatOps F] (main_arg1 : FVec F S1x8192x1024 .f32) (main_v20 : FVec F S1x8192x1024 .f32) : IVec S1x8192x1024 1 :=
  let main_v21 : IVec S1x8192x1024 1 := cmpf .oeq main_arg1 main_v20
  main_v21

def fn {F : FTy → Type} [FloatOps F] (main_arg0 : FVec F S4x8192x1024 .f32) (main_arg1 : FVec F S1x8192x1024 .f32) : IVec S1x8192x1024 1 :=
  let main_v0 : FVec F S8192 .f32 := sitofp .f32 (iotaInDim S8192 32 0)
  let main_v1 : FVec F S8192x1 .f32 := broadcastInDim S8192x1 ![0] bcast_S8192_S8192x1_0 main_v0
  let main_v2 : FVec F S512 .f32 := sitofp .f32 (iotaInDim S512 32 0)
  let main_cst : FVec F S_ .f32 := constant S_ .f32 0x40000000#32
  let main_v3 : FVec F S512 .f32 := broadcastInDim S512 ![] bcast_S_S512 main_cst
  let main_v4 : FVec F S512 .f32 := mulf main_v3 main_v2
  let main_cst_0 : FVec F S_ .f32 := constant S_ .f32 0x00000000#32
  let main_v5 : FVec F S512 .f32 := broadcastInDim S512 ![] bcast_S_S512 main_cst_0
  let main_v6 : FVec F S512 .f32 := addf main_v5 main_v4
  let main_cst_1 : FVec F S_ .f32 := constant S_ .f32 0xBC135D8E#32
  let main_v7 : FVec F S512 .f32 := broadcastInDim S512 ![] bcast_S_S512 main_cst_1
  let main_v8 : FVec F S512 .f32 := mulf main_v6 main_v7
  let main_v9 : FVec F S512 .f32 := Host.exp main_v8
  let main_v10 : FVec F S1x512 .f32 := broadcastInDim S1x512 ![1] bcast_S512_S1x512_1 main_v9
  let main_v11 : FVec F S8192x512 .f32 := broadcastInDim S8192x512 ![0, 1] bcast_S8192x1_S8192x512_0_1 main_v1
  let main_v12 : FVec F S8192x512 .f32 := broadcastInDim S8192x512 ![0, 1] bcast_S1x512_S8192x512_0_1 main_v10
  let main_v13 : FVec F S8192x512 .f32 := mulf main_v11 main_v12
  let main_v14 : FVec F S8192x512 .f32 := Host.sin main_v13
  let main_v15 : FVec F S8192x512 .f32 := Host.cos main_v13
  let main_v16 : FVec F S8192x512x1 .f32 := broadcastInDim S8192x512x1 ![0, 1] bcast_S8192x512_S8192x512x1_0_1 main_v14
  let main_v17 : FVec F S8192x512x1 .f32 := broadcastInDim S8192x512x1 ![0, 1] bcast_S8192x512_S8192x512x1_0_1 main_v15
  let main_v18 : FVec F S8192x512x2 .f32 := (fun a b => concatenate S8192x512x2 2 [⟨S8192x512x1, a⟩, ⟨S8192x512x1, b⟩] concatenates_S8192x512x1_S8192x512x1_S8192x512x2_d2) main_v16 main_v17
  let main_v19 : FVec F S8192x1024 .f32 := shapeCast S8192x1024 main_v18 shapeCasts_S8192x512x2_S8192x1024
  let main_v20 : FVec F S1x8192x1024 .f32 := broadcastInDim S1x8192x1024 ![1, 2] bcast_S8192x1024_S1x8192x1024_1_2 main_v19
  fn_part1 (F := F) main_arg1 main_v20
-- ==== Kernel.lean ====
abbrev S4x8192x1024 : Shape := ⟨3, ![4, 8192, 1024]⟩
abbrev S1x8192x1024 : Shape := ⟨3, ![1, 8192, 1024]⟩
abbrev S20 : Shape := ⟨1, ![20]⟩
abbrev S1024 : Shape := ⟨1, ![1024]⟩
abbrev S_ : Shape := ⟨0, ![]⟩
abbrev S1x1024 : Shape := ⟨2, ![1, 1024]⟩
abbrev S20x1 : Shape := ⟨2, ![20, 1]⟩
abbrev S20x1024 : Shape := ⟨2, ![20, 1024]⟩
abbrev S32 : Shape := ⟨1, ![32]⟩
abbrev S32x1 : Shape := ⟨2, ![32, 1]⟩
abbrev S32x1024 : Shape := ⟨2, ![32, 1024]⟩
abbrev S16 : Shape := ⟨1, ![16]⟩
abbrev S16x1 : Shape := ⟨2, ![16, 1]⟩
abbrev S16x1024 : Shape := ⟨2, ![16, 1024]⟩
abbrev S8192x1024 : Shape := ⟨2, ![8192, 1024]⟩
abbrev S4x512x1024 : Shape := ⟨3, ![4, 512, 1024]⟩
abbrev S4 : Shape := ⟨1, ![4]⟩
abbrev S1x16x1024 : Shape := ⟨3, ![1, 16, 1024]⟩
abbrev S1 : Shape := ⟨1, ![1]⟩
abbrev S128x1024 : Shape := ⟨2, ![128, 1024]⟩
abbrev S1x128x1024 : Shape := ⟨3, ![1, 128, 1024]⟩
abbrev S256x1024 : Shape := ⟨2, ![256, 1024]⟩
abbrev S1x256x1024 : Shape := ⟨3, ![1, 256, 1024]⟩
abbrev S512x1024 : Shape := ⟨2, ![512, 1024]⟩
abbrev S1x512x1024 : Shape := ⟨3, ![1, 512, 1024]⟩

abbrev nBuf : Space → Nat
  | .hbm => 91
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S1x8192x1024, .f32⟩
  | .hbm, ⟨2, _⟩ => ⟨S20, .f32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S_, .i1⟩
  | .hbm, ⟨46, _⟩ => ⟨S1024, .i1⟩
  | .hbm, ⟨47, _⟩ => ⟨S1024, .i1⟩
  | .hbm, ⟨48, _⟩ => ⟨S1024, .i1⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S1x1024, .i1⟩
  | .hbm, ⟨56, _⟩ => ⟨S20x1, .f32⟩
  | .hbm, ⟨57, _⟩ => ⟨S1x1024, .f32⟩
  | .hbm, ⟨58, _⟩ => ⟨S20x1024, .f32⟩
  | .hbm, ⟨59, _⟩ => ⟨S20x1024, .f32⟩
  | .hbm, ⟨60, _⟩ => ⟨S20x1024, .f32⟩
  | .hbm, ⟨61, _⟩ => ⟨S20x1024, .f32⟩
  | .hbm, ⟨62, _⟩ => ⟨S20x1024, .f32⟩
  | .hbm, ⟨63, _⟩ => ⟨S20x1024, .i1⟩
  | .hbm, ⟨64, _⟩ => ⟨S20x1024, .f32⟩
  | .hbm, ⟨65, _⟩ => ⟨S20x1024, .f32⟩
  | .hbm, ⟨66, _⟩ => ⟨S20x1024, .f32⟩
  | .hbm, ⟨67, _⟩ => ⟨S20x1024, .f32⟩
  | .hbm, ⟨68, _⟩ => ⟨S20x1024, .i1⟩
  | .hbm, ⟨69, _⟩ => ⟨S20x1024, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S32x1, .f32⟩
  | .hbm, ⟨75, _⟩ => ⟨S1x1024, .f32⟩
  | .hbm, ⟨76, _⟩ => ⟨S32x1024, .f32⟩
  | .hbm, ⟨77, _⟩ => ⟨S32x1024, .f32⟩
  | .hbm, ⟨78, _⟩ => ⟨S32x1024, .f32⟩
  | .hbm, ⟨79, _⟩ => ⟨S32x1024, .f32⟩
  | .hbm, ⟨80, _⟩ => ⟨S32x1024, .f32⟩
  | .hbm, ⟨81, _⟩ => ⟨S16, .f32⟩
  | .hbm, ⟨82, _⟩ => ⟨S16x1, .f32⟩
  | .hbm, ⟨83, _⟩ => ⟨S1x1024, .f32⟩
  | .hbm, ⟨84, _⟩ => ⟨S16x1024, .f32⟩
  | .hbm, ⟨85, _⟩ => ⟨S16x1024, .f32⟩
  | .hbm, ⟨86, _⟩ => ⟨S16x1024, .f32⟩
  | .hbm, ⟨87, _⟩ => ⟨S16x1024, .f32⟩
  | .hbm, ⟨88, _⟩ => ⟨S16x1024, .f32⟩
  | .hbm, ⟨89, _⟩ => ⟨S8192x1024, .f32⟩
  | .hbm, ⟨90, _⟩ => ⟨S1x8192x1024, .f32⟩
  | .local _ .vmem, ⟨0, _⟩ => ⟨S20x1024, .f32⟩
  | .local _ .vmem, ⟨1, _⟩ => ⟨S20x1024, .f32⟩
  | .local _ .vmem, ⟨2, _⟩ => ⟨S32x1024, .f32⟩
  | .local _ .vmem, ⟨3, _⟩ => ⟨S32x1024, .f32⟩
  | .local _ .vmem, ⟨4, _⟩ => ⟨S16x1024, .f32⟩
  | .local _ .vmem, ⟨5, _⟩ => ⟨S16x1024, .f32⟩
  | .local _ .vmem, ⟨6, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_2 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_call2_v0 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_call3_v0 : Ref sig .tc := ⟨.hbm, 68, rfl⟩
abbrev main_v23 : Ref sig .tc := ⟨.hbm, 69, rfl⟩
abbrev main_v24 : Ref sig .tc := ⟨.hbm, 70, rfl⟩
abbrev main_cst_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S20x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== TableIdeal.lean ====
abbrev S4x8192x1024 : Shape := ⟨3, ![4, 8192, 1024]⟩
abbrev S1x8192x1024 : Shape := ⟨3, ![1, 8192, 1024]⟩
abbrev S8192 : Shape := ⟨1, ![8192]⟩
abbrev S8192x1 : Shape := ⟨2, ![8192, 1]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x512x1 : Shape := ⟨3, ![8192, 512, 1]⟩
abbrev S8192x512x2 : Shape := ⟨3, ![8192, 512, 2]⟩
abbrev S8192x1024 : Shape := ⟨2, ![8192, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x8192x1024, .f32⟩
  | .hbm, ⟨2, _⟩ => ⟨S8192, .f32⟩
  | .hbm, ⟨3, _⟩ => ⟨S8192x1, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512x1, .f32⟩
  | .hbm, ⟨22, _⟩ => ⟨S8192x512x1, .f32⟩
  | .hbm, ⟨23, _⟩ => ⟨S8192x512x2, .f32⟩
  | .hbm, ⟨24, _⟩ => ⟨S8192x1024, .f32⟩
  | .hbm, ⟨25, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== ReferenceIdeal.lean ====
abbrev S4x8192x1024 : Shape := ⟨3, ![4, 8192, 1024]⟩
abbrev S1x8192x1024 : Shape := ⟨3, ![1, 8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Ring.Plan.lean ====
/-
  The plan of the ring: the output's 8192 rows are cut into 20 chunks (128, 128, 256, fourteen of 512, 256, 128, 128
  rows); a chunk is computed 16 rows at a time into one of four slots and copied out from there. Only numbers here.
-/
module

public import Mathlib.Data.Nat.Basic
public import Mathlib.Tactic.IntervalCases

@[expose] public section

namespace Cert.Ring

/-- The first row of chunk `k`. -/
def start (k : ℕ) : ℕ := if k ≤ 1 then 128 * k else if k ≤ 17 then 512 * k - 1024 + (if k = 2 then 256 else 0) else 7936 + 128 * (k - 18)
/-- The number of rows of chunk `k`. -/
def len (k : ℕ) : ℕ := if k ≤ 1 ∨ 18 ≤ k then 128 else if k = 2 ∨ k = 17 then 256 else 512
/-- The chunk that holds row `r`. -/
def chunkOf (r : ℕ) : ℕ := if r < 256 then r / 128 else if r < 512 then 2 else if r < 7936 then 2 + r / 512 else 18 + (r - 7936) / 128

theorem start_succ {k : ℕ} (h : k < 20) : start (k + 1) = start k + len k := by
  unfold start len; split_ifs <;> omega

theorem start_last : start 20 = 8192 := rfl

theorem len_le (k : ℕ) : len k ≤ 512 := by unfold len; split_ifs <;> omega

/-- Every chunk is made of whole stripes of 16 rows. -/
theorem len_dvd (k : ℕ) : 16 ∣ len k := by unfold len; split_ifs <;> decide

/-- A row of chunk `k` is found in chunk `k`. -/
theorem chunkOf_eq {k r : ℕ} (hk : k < 20) (h : start k ≤ r) (h' : r < start k + len k) : chunkOf r = k := by
  unfold start len at h'; unfold start at h; unfold chunkOf
  split_ifs at * <;> omega

/-- A row lies in the chunk it is found in. -/
theorem chunkOf_spec {r : ℕ} (h : r < 8192) : chunkOf r < 20 ∧ start (chunkOf r) ≤ r ∧ r < start (chunkOf r) + len (chunkOf r) := by
  unfold chunkOf start len
  split_ifs <;> omega

/-- The chunk a row is found in is the only one that holds it. -/
theorem mem_chunk_iff {k r : ℕ} (hk : k < 20) (hr : r < 8192) : (start k ≤ r ∧ r < start k + len k) ↔ chunkOf r = k :=
  ⟨fun h => chunkOf_eq hk h.1 h.2, fun h => h ▸ (chunkOf_spec hr).2⟩

end Cert.Ring
-- ==== Proof.Ring.State.lean ====
/-
  What the core holds while the ring runs: the six tables, the four slots with their semaphore cells, the transfers in
  flight and the row blocks of the output. Chunk `k` uses slot `k % 4`.
-/
module

public import proofs.«01_k».proof.Proof.Gen.KernelIdeal.Launch
public import proofs.«01_k».proof.Proof.Ring.Plan
public import Idealize.ShloMosaic.Lib.Pipeline.FrameBody
public import Idealize.ShloMosaic.Lib.Pipeline.FrameSuffixV
public import Idealize.ShloMosaic.Lib.Transfers
public import Idealize.ShloMosaic.Lib.ValueIdxCore

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The six tables the kernel reads, as memrefs and their buffers' contents on core `c`. -/
structure Tables (F : FTy → Type) [FloatOps F] (c : Dev nD) where
  a0 : Memref sig .tc .vmem S20x1024 .f32
  a1 : Memref sig .tc .vmem S20x1024 .f32
  a2 : Memref sig .tc .vmem S32x1024 .f32
  a3 : Memref sig .tc .vmem S32x1024 .f32
  a4 : Memref sig .tc .vmem S16x1024 .f32
  a5 : Memref sig .tc .vmem S16x1024 .f32
  f0 : Buf (Elt F) (a0.view.loc (c : Thread nD τ))
  f1 : Buf (Elt F) (a1.view.loc (c : Thread nD τ))
  f2 : Buf (Elt F) (a2.view.loc (c : Thread nD τ))
  f3 : Buf (Elt F) (a3.view.loc (c : Thread nD τ))
  f4 : Buf (Elt F) (a4.view.loc (c : Thread nD τ))
  f5 : Buf (Elt F) (a5.view.loc (c : Thread nD τ))

/-- The four slots, one buffer of 4 × 512 rows. -/
abbrev slots : Memref sig .tc .vmem S4x512x1024 .f32 := Memref.whole cc0_scratch0
/-- The output array. -/
abbrev out : Memref sig .tc .hbm S8192x1024 .f32 := Memref.whole main_v42
/-- The semaphore cell of chunk `k`'s slot. -/
def cellAt (k : ℕ) : DmaSem sig := cc0_scratch1.ix (ix1 ⟨k % 4, Nat.mod_lt _ (by decide)⟩)

variable {c : Dev nD} (T : Tables F c)

/-! ## What the tables hold -/

/-- Row `k` of the table of chunk starts' sines or cosines of the first kind. -/
def row0 (k : ℕ) : Vec F S1x1024 .f32 := fun y => T.a0.view.read (Elt F) T.f0 (ix2 ⟨k % 20, Nat.mod_lt _ (by decide)⟩ (y 1))
/-- Row `k` of the table of chunk starts of the second kind. -/
def row1 (k : ℕ) : Vec F S1x1024 .f32 := fun y => T.a1.view.read (Elt F) T.f1 (ix2 ⟨k % 20, Nat.mod_lt _ (by decide)⟩ (y 1))
/-- Row `d` of the table of the cosines of stripe offsets. -/
def row2 (d : ℕ) : Vec F S1x1024 .f32 := fun y => T.a2.view.read (Elt F) T.f2 (ix2 ⟨d % 32, Nat.mod_lt _ (by decide)⟩ (y 1))
/-- Row `d` of the table of the sines of stripe offsets. -/
def row3 (d : ℕ) : Vec F S1x1024 .f32 := fun y => T.a3.view.read (Elt F) T.f3 (ix2 ⟨d % 32, Nat.mod_lt _ (by decide)⟩ (y 1))
/-- The table of the cosines of the offsets in a stripe. -/
def low4 : Vec F S16x1024 .f32 := T.a4.view.read (Elt F) T.f4
/-- The table of the sines of the offsets in a stripe. -/
def low5 : Vec F S16x1024 .f32 := T.a5.view.read (Elt F) T.f5

/-- One stripe of 16 rows from the rows it is computed of: the angle addition twice. -/
def stripe (a b x y : Vec F S1x1024 .f32) (u v : Vec F S16x1024 .f32) : Vec F S1x16x1024 .f32 :=
  shapeCast S1x16x1024
    (addf (mulf (broadcastTo S16x1024 (addf (mulf (shapeCast S1x1024 a shapeCasts_S1x1024_S1x1024) (shapeCast S1x1024 x shapeCasts_S1x1024_S1x1024))
      (mulf (shapeCast S1x1024 b shapeCasts_S1x1024_S1x1024) (shapeCast S1x1024 y shapeCasts_S1x1024_S1x1024))) broadcasts_S1x1024_S16x1024)
        (shapeCast S16x1024 u shapeCasts_S16x1024_S16x1024))
      (mulf (broadcastTo S16x1024 (subf (mulf (shapeCast S1x1024 b shapeCasts_S1x1024_S1x1024) (shapeCast S1x1024 x shapeCasts_S1x1024_S1x1024))
      (mulf (shapeCast S1x1024 a shapeCasts_S1x1024_S1x1024) (shapeCast S1x1024 y shapeCasts_S1x1024_S1x1024))) broadcasts_S1x1024_S16x1024)
        (shapeCast S16x1024 v shapeCasts_S16x1024_S16x1024)))
    shapeCasts_S16x1024_S1x16x1024

/-- Stripe `d` of chunk `k`. -/
def stripeOf (k d : ℕ) : Vec F S1x16x1024 .f32 := stripe (row0 T k) (row1 T k) (row2 T d) (row3 T d) (low4 T) (low5 T)
/-- Row `r` of chunk `k` at lane `j`. -/
def rowOf (k r : ℕ) (j : Fin 1024) : Elt F .f32 := stripeOf T k (r / 16) (ix3 0 ⟨r % 16, Nat.mod_lt _ (by decide)⟩ j)
/-- What the output array ends at. -/
def ring (i : S8192x1024.Idx) : Elt F .f32 := rowOf T (chunkOf (i 0)) ((i 0).val - start (chunkOf (i 0))) (i 1)

/-! ## Where things lie -/

/-- The elements of chunk `k`'s slot. -/
def slotSet (k : ℕ) : Finset S4x512x1024.Idx := Finset.univ.filter fun i => (i 0).val = k % 4
/-- The elements of the slot that chunk `k` is copied out of. -/
def srcSet (k : ℕ) : Finset S4x512x1024.Idx := Finset.univ.filter fun i => (i 0).val = k % 4 ∧ (i 1).val < len k
/-- The elements of the output that hold chunk `k`. -/
def outSet (k : ℕ) : Finset S8192x1024.Idx := Finset.univ.filter fun i => start k ≤ (i 0).val ∧ (i 0).val < start k + len k
/-- What the copy of chunk `k` credits its cell. -/
def credit (k : ℕ) : ℕ := main_v42.dmaCredit ⟨2, ![len k, 1024]⟩ .f32

/-! ## What is held -/

/-- The tables, held whole. -/
def tables : sProp 𝕄 :=
  iprop((T.a0.view.loc (c : Thread nD τ) ↦[Finset.univ]{fullShare} T.f0) ∗ (T.a1.view.loc (c : Thread nD τ) ↦[Finset.univ]{fullShare} T.f1)
    ∗ (T.a2.view.loc (c : Thread nD τ) ↦[Finset.univ]{fullShare} T.f2) ∗ (T.a3.view.loc (c : Thread nD τ) ↦[Finset.univ]{fullShare} T.f3)
    ∗ (T.a4.view.loc (c : Thread nD τ) ↦[Finset.univ]{fullShare} T.f4) ∗ (T.a5.view.loc (c : Thread nD τ) ↦[Finset.univ]{fullShare} T.f5))

variable (c) in
/-- Chunk `k`'s slot free: its cell at zero, its elements at any contents. -/
def free (k : ℕ) : sProp 𝕄 :=
  iprop(semVal ((c : Thread nD τ), SemLoc.dma (cellAt k)) 0 ∗ ∃ g : Buf (Elt F) (slots.view.loc (c : Thread nD τ)), slots.view.loc (c : Thread nD τ) ↦[slotSet k]{fullShare} g)

/-- Chunk `k`'s slot with its first `n` stripes computed. -/
def filling (k n : ℕ) : sProp 𝕄 :=
  iprop(semVal ((c : Thread nD τ), SemLoc.dma (cellAt k)) 0 ∗ ∃ g : Buf (Elt F) (slots.view.loc (c : Thread nD τ)),
    ⌜∀ i : S4x512x1024.Idx, (i 0).val = k % 4 → (i 1).val < 16 * n → g i = rowOf T k (i 1) (i 2)⌝
    ∗ (slots.view.loc (c : Thread nD τ) ↦[slotSet k]{fullShare} g))

variable (F c) in
/-- The rows of chunk `k` of the output, at any contents. -/
def raw (k : ℕ) : sProp 𝕄 := iprop(∃ f : Buf (Elt F) (out.view.loc (c : Thread nD τ)), out.view.loc (c : Thread nD τ) ↦[outSet k]{fullShare} f)

/-- The rows of chunk `k` of the output, at what they end at. -/
def done (k : ℕ) : sProp 𝕄 := out.view.loc (c : Thread nD τ) ↦[outSet k]{fullShare} (ring T : Buf (Elt F) (out.view.loc (c : Thread nD τ)))

/-- Chunk `k` on its way out: its transfer in flight, and the rest of its slot. -/
def flying (k : ℕ) : sProp 𝕄 :=
  iprop(∃ g : Buf (Elt F) (slots.view.loc (c : Thread nD τ)),
    Transfers.Flight (countersEmb (U := Pipeline.UD sig nD τ)) (c : Thread nD τ) (.dma (cellAt k)) () (credit k)
      iprop(done T k ∗ (slots.view.loc (c : Thread nD τ) ↦[srcSet k]{fullShare} g))
    ∗ (slots.view.loc (c : Thread nD τ) ↦[slotSet k \ srcSet k]{fullShare} g))

variable (F c) in
/-- The core's tally of waits. -/
def tally : sProp 𝕄 := iprop(∃ W, owes (c : Thread nD τ) 0 W)

/-- Between chunks: `i` transfers started, `w` waited for. -/
def idle (i w : ℕ) : sProp 𝕄 :=
  iprop(tally F c ∗ bigSep (Finset.Ico i (w + 4)) (free (F := F) c) ∗ bigSep (Finset.Ico w i) (flying T)
    ∗ bigSep (Finset.range w) (done T) ∗ bigSep (Finset.Ico i 20) (raw F c))

/-- In chunk `i`: `n` of its stripes computed, `w` transfers waited for. -/
def inside (i w n : ℕ) : sProp 𝕄 :=
  iprop(tally F c ∗ filling T i n ∗ bigSep (Finset.Ico (i + 1) (w + 4)) (free (F := F) c) ∗ bigSep (Finset.Ico w i) (flying T)
    ∗ bigSep (Finset.range w) (done T) ∗ bigSep (Finset.Ico i 20) (raw F c))

/-- The program `p` may be run holding the tables and `P`, and ends in `Q`. -/
structure Ok (P : sProp 𝕄) {α : Type} (p : Prog (TpuEff nD τ sig (Elt F) Λ₀ .tc) α) (Q : α → sProp 𝕄) : Prop where
  tri : iprop(tables T ∗ P) ⊢ wp frame (wpE (defs₀ (F := F)) Variants.none (c : Thread nD τ) none) Set.univ p Q

end Cert.Ring
-- ==== Proof.Ring.Steps.lean ====
/-
  One step of the ring's body each: a load of a table row, the load and store of a stripe, the start of a chunk's copy
  out, the wait for one, the claim of a free slot.
-/
module

public import proofs.«01_k».proof.Proof.Ring.State
public import Idealize.ShloMosaic.Lib.Exec.Context
public import Idealize.ShloMosaic.Lib.Tactic

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (T : Tables F c) {α : Type}

/-! ## Loads of the tables -/

/-- A load out of a buffer held whole continues at what the rectangle reads. -/
theorem ok_table {P R : sProp 𝕄} {Q : α → sProp 𝕄} {s : Shape} {m : Memref sig .tc .vmem s .f32} {r : LoadRect s} {hl : m.view.LoadsAt r}
    {f : Buf (Elt F) (m.view.loc (c : Thread nD τ))} {k : _ → Prog (TpuEff nD τ sig (Elt F) Λ₀ .tc) α}
    (hR : tables T ⊣⊢ R ∗ (m.view.loc (c : Thread nD τ) ↦[Finset.univ]{fullShare} f)) (v) (hv : m.view.readAt (Elt F) r f = v)
    (H : Ok T P (k v) Q) : Ok T P (.op (.load m r hl) k) Q := by
  constructor
  refine exec_load Variants.none (c : Thread nD τ) none Set.univ (R := iprop(R ∗ P)) (S := Finset.univ) (q := fullShare) (f := f) ?_ (Finset.subset_univ _) v hv H.tri
  constructor
  · iintro ⟨Ht, HP⟩
    ihave H := hR.1 $$ Ht
    icases H with ⟨HR, Hp⟩
    isplitr [Hp]
    · isplitl [HR] <;> iassumption
    · iassumption
  · iintro ⟨⟨HR, HP⟩, Hp⟩
    isplitr [HP]
    · iapply hR.2
      isplitl [HR] <;> iassumption
    · iassumption

/-- A one-row rectangle of a table of `N` rows reads that row. -/
theorem readAt_row {N : ℕ} (hN : 0 < N) (m : Memref sig .tc .vmem ⟨2, ![N, 1024]⟩ .f32) (f) {n : ℕ} {h} :
    m.view.readAt (Elt F) (Rect.unit (s := ⟨2, ![N, 1024]⟩) ![n, 0] S1x1024.size h).toLoadRect f
      = fun y : S1x1024.Idx => m.view.read (Elt F) f (ix2 ⟨n % N, Nat.mod_lt _ hN⟩ (y 1)) := by
  have hn : n + 1 ≤ N := h 0
  funext y
  rw [View.readAt_apply]
  congr 1
  funext a
  have hy : (y 0).val < 1 := (y 0).isLt
  match a with
  | ⟨0, _⟩ => exact Fin.ext (show n + 1 * (y 0).val = n % N by rw [Nat.mod_eq_of_lt (by omega)]; omega)
  | ⟨1, _⟩ => exact Fin.ext (show 0 + 1 * (y 1).val = (y 1).val by omega)

/-- The whole rectangle of a 16-row table reads the table. -/
theorem readAt_all (m : Memref sig .tc .vmem S16x1024 .f32) (f) {h} :
    m.view.readAt (Elt F) (Rect.unit (s := S16x1024) ![0, 0] S16x1024.size h).toLoadRect f = m.view.read (Elt F) f := by
  funext y
  rw [View.readAt_apply]
  congr 1
  funext a
  match a with
  | ⟨0, _⟩ => exact Fin.ext (show 0 + 1 * (y 0).val = (y 0).val by omega)
  | ⟨1, _⟩ => exact Fin.ext (show 0 + 1 * (y 1).val = (y 1).val by omega)

/-- One table held whole. -/
abbrev held {s : Shape} (m : Memref sig .tc .vmem s .f32) (f : Buf (Elt F) (m.view.loc (c : Thread nD τ))) : sProp 𝕄 :=
  m.view.loc (c : Thread nD τ) ↦[Finset.univ]{fullShare} f

/-- The first of six, taken to the end. -/
theorem pick0 (A B C D E G : sProp 𝕄) : iprop(A ∗ B ∗ C ∗ D ∗ E ∗ G) ⊣⊢ iprop((B ∗ C ∗ D ∗ E ∗ G) ∗ A) := sep_comm
/-- The second of six. -/
theorem pick1 (A B C D E G : sProp 𝕄) : iprop(A ∗ B ∗ C ∗ D ∗ E ∗ G) ⊣⊢ iprop((A ∗ C ∗ D ∗ E ∗ G) ∗ B) := by
  constructor
  · iintro ⟨HA, HB, HC, HD, HE, HG⟩; iframe
  · iintro ⟨⟨HA, HC, HD, HE, HG⟩, HB⟩; iframe
/-- The third of six. -/
theorem pick2 (A B C D E G : sProp 𝕄) : iprop(A ∗ B ∗ C ∗ D ∗ E ∗ G) ⊣⊢ iprop((A ∗ B ∗ D ∗ E ∗ G) ∗ C) := by
  constructor
  · iintro ⟨HA, HB, HC, HD, HE, HG⟩; iframe
  · iintro ⟨⟨HA, HB, HD, HE, HG⟩, HC⟩; iframe
/-- The fourth of six. -/
theorem pick3 (A B C D E G : sProp 𝕄) : iprop(A ∗ B ∗ C ∗ D ∗ E ∗ G) ⊣⊢ iprop((A ∗ B ∗ C ∗ E ∗ G) ∗ D) := by
  constructor
  · iintro ⟨HA, HB, HC, HD, HE, HG⟩; iframe
  · iintro ⟨⟨HA, HB, HC, HE, HG⟩, HD⟩; iframe
/-- The fifth of six. -/
theorem pick4 (A B C D E G : sProp 𝕄) : iprop(A ∗ B ∗ C ∗ D ∗ E ∗ G) ⊣⊢ iprop((A ∗ B ∗ C ∗ D ∗ G) ∗ E) := by
  constructor
  · iintro ⟨HA, HB, HC, HD, HE, HG⟩; iframe
  · iintro ⟨⟨HA, HB, HC, HD, HG⟩, HE⟩; iframe
/-- The sixth of six. -/
theorem pick5 (A B C D E G : sProp 𝕄) : iprop(A ∗ B ∗ C ∗ D ∗ E ∗ G) ⊣⊢ iprop((A ∗ B ∗ C ∗ D ∗ E) ∗ G) := by
  constructor
  · iintro ⟨HA, HB, HC, HD, HE, HG⟩; iframe
  · iintro ⟨⟨HA, HB, HC, HD, HE⟩, HG⟩; iframe

/-- The load of row `n` of the first table. -/
theorem ok_load0 {P : sProp 𝕄} {Q : α → sProp 𝕄} {n h hl} {k : _ → Prog (TpuEff nD τ sig (Elt F) Λ₀ .tc) α} (H : Ok T P (k (row0 T n)) Q) :
    Ok T P (.op (.load T.a0 (Rect.unit (s := S20x1024) ![n, 0] S1x1024.size h).toLoadRect hl) k) Q :=
  ok_table T (pick0 _ _ _ _ _ _) _ (readAt_row (by decide) T.a0 T.f0) H
/-- The load of row `n` of the second table. -/
theorem ok_load1 {P : sProp 𝕄} {Q : α → sProp 𝕄} {n h hl} {k : _ → Prog (TpuEff nD τ sig (Elt F) Λ₀ .tc) α} (H : Ok T P (k (row1 T n)) Q) :
    Ok T P (.op (.load T.a1 (Rect.unit (s := S20x1024) ![n, 0] S1x1024.size h).toLoadRect hl) k) Q :=
  ok_table T (pick1 _ _ _ _ _ _) _ (readAt_row (by decide) T.a1 T.f1) H
/-- The load of row `n` of the third table. -/
theorem ok_load2 {P : sProp 𝕄} {Q : α → sProp 𝕄} {n h hl} {k : _ → Prog (TpuEff nD τ sig (Elt F) Λ₀ .tc) α} (H : Ok T P (k (row2 T n)) Q) :
    Ok T P (.op (.load T.a2 (Rect.unit (s := S32x1024) ![n, 0] S1x1024.size h).toLoadRect hl) k) Q :=
  ok_table T (pick2 _ _ _ _ _ _) _ (readAt_row (by decide) T.a2 T.f2) H
/-- The load of row `n` of the fourth table. -/
theorem ok_load3 {P : sProp 𝕄} {Q : α → sProp 𝕄} {n h hl} {k : _ → Prog (TpuEff nD τ sig (Elt F) Λ₀ .tc) α} (H : Ok T P (k (row3 T n)) Q) :
    Ok T P (.op (.load T.a3 (Rect.unit (s := S32x1024) ![n, 0] S1x1024.size h).toLoadRect hl) k) Q :=
  ok_table T (pick3 _ _ _ _ _ _) _ (readAt_row (by decide) T.a3 T.f3) H
/-- The load of the fifth table. -/
theorem ok_load4 {P : sProp 𝕄} {Q : α → sProp 𝕄} {h hl} {k : _ → Prog (TpuEff nD τ sig (Elt F) Λ₀ .tc) α} (H : Ok T P (k (low4 T)) Q) :
    Ok T P (.op (.load T.a4 (Rect.unit (s := S16x1024) ![0, 0] S16x1024.size h).toLoadRect hl) k) Q :=
  ok_table T (pick4 _ _ _ _ _ _) _ (readAt_all T.a4 T.f4) H
/-- The load of the sixth table. -/
theorem ok_load5 {P : sProp 𝕄} {Q : α → sProp 𝕄} {h hl} {k : _ → Prog (TpuEff nD τ sig (Elt F) Λ₀ .tc) α} (H : Ok T P (k (low5 T)) Q) :
    Ok T P (.op (.load T.a5 (Rect.unit (s := S16x1024) ![0, 0] S16x1024.size h).toLoadRect hl) k) Q :=
  ok_table T (pick5 _ _ _ _ _ _) _ (readAt_all T.a5 T.f5) H

/-! ## A stripe's load and store -/

/-- What a stripe's rectangle covers of the slots. -/
theorem stripe_set {sl r : ℕ} {h} (x : S4x512x1024.Idx) :
    x ∈ (slots.access (Rect.unit (s := S4x512x1024) ![sl, r, 0] S1x16x1024.size h)).set ↔ (x 0).val = sl ∧ r ≤ (x 1).val ∧ (x 1).val < r + 16 := by
  have h2 : (x 2).val < 1024 := (x 2).isLt
  rw [show (slots.access (Rect.unit (s := S4x512x1024) ![sl, r, 0] S1x16x1024.size h)).set = (Rect.unit (s := S4x512x1024) ![sl, r, 0] S1x16x1024.size h).set from View.set_slice_whole _ _,
    Rect.mem_set_unit]
  constructor
  · intro H
    have h0 : sl ≤ (x 0).val ∧ (x 0).val < sl + 1 := H 0
    have h1 : r ≤ (x 1).val ∧ (x 1).val < r + 16 := H 1
    omega
  · rintro ⟨h0, h1, h3⟩ a
    match a with
    | ⟨0, _⟩ => exact ⟨show sl ≤ (x 0).val by omega, show (x 0).val < sl + 1 by omega⟩
    | ⟨1, _⟩ => exact ⟨h1, h3⟩
    | ⟨2, _⟩ => exact ⟨Nat.zero_le _, show (x 2).val < 0 + 1024 by omega⟩

/-- Where a stripe's rectangle puts an element, by coordinates. -/
theorem stripe_emb {sl r : ℕ} {h} (y : S1x16x1024.Idx) :
    ((slots.access (Rect.unit (s := S4x512x1024) ![sl, r, 0] S1x16x1024.size h)).emb y 0).val = sl + 1 * (y 0).val
      ∧ ((slots.access (Rect.unit (s := S4x512x1024) ![sl, r, 0] S1x16x1024.size h)).emb y 1).val = r + 1 * (y 1).val
      ∧ ((slots.access (Rect.unit (s := S4x512x1024) ![sl, r, 0] S1x16x1024.size h)).emb y 2).val = 0 + 1 * (y 2).val := ⟨rfl, rfl, rfl⟩

/-- Each element of the stripe's rectangle is some element of the stripe. -/
theorem stripe_onto {sl r : ℕ} {h} (x : S4x512x1024.Idx) (hb : (x 0).val = sl ∧ r ≤ (x 1).val ∧ (x 1).val < r + 16) :
    ∃ y : S1x16x1024.Idx, (slots.access (Rect.unit (s := S4x512x1024) ![sl, r, 0] S1x16x1024.size h)).emb y = x := by
  have hlt : (x 1).val - r < 16 := by omega
  have he := stripe_emb (h := h) (ix3 (0 : Fin 1) (⟨(x 1).val - r, hlt⟩ : Fin 16) (x 2 : Fin 1024))
  refine ⟨ix3 (0 : Fin 1) (⟨(x 1).val - r, hlt⟩ : Fin 16) (x 2 : Fin 1024), ?_⟩
  refine (eq_ix3 _).trans (Eq.trans ?_ (eq_ix3 x).symm)
  congr 1
  · exact Fin.ext (he.1.trans (by show sl + 1 * 0 = (x 0).val; omega))
  · exact Fin.ext (he.2.1.trans (by show r + 1 * ((x 1).val - r) = (x 1).val; omega))
  · exact Fin.ext (he.2.2.trans (by show 0 + 1 * (x 2).val = (x 2).val; omega))

/-- A stripe of the slot lies in the slot. -/
theorem stripe_sub {i sl r : ℕ} {h} (hsl : sl = i % 4) :
    (slots.access (Rect.unit (s := S4x512x1024) ![sl, r, 0] S1x16x1024.size h)).set ⊆ slotSet i := fun x hx =>
  Finset.mem_filter.mpr ⟨Finset.mem_univ _, hsl ▸ ((stripe_set x).mp hx).1⟩

/-- The load of a stripe, whose value nothing depends on. -/
theorem ok_peek {Q : α → sProp 𝕄} {i w n sl r : ℕ} {h hl} {k : _ → Prog (TpuEff nD τ sig (Elt F) Λ₀ .tc) α} (H : ∀ v, Ok T (inside T i w n) (k v) Q) (hsl : sl = i % 4) :
    Ok T (inside T i w n) (.op (.load slots (Rect.unit (s := S4x512x1024) ![sl, r, 0] S1x16x1024.size h).toLoadRect hl) k) Q := by
  constructor
  have H' := fun v => (H v).tri
  unfold inside filling at H' ⊢
  iintro ⟨Ht, Hy, ⟨Hs, %g, %hg, Hp⟩, H1, H2, H3, H4⟩
  iapply (wp_load Variants.none (c : Thread nD τ) none Set.univ (hl := hl) (S := slotSet i) (q := fullShare) (f := g) (Memref.setOn_subset_of_access_subset (c := (c : Thread nD τ)) (stripe_sub hsl))) $$ Hp
  iintro Hp
  iapply (H' _)
  iframe Ht Hy Hs H1 H2 H3 H4
  iexists g
  iframe Hp
  ipureintro
  exact hg

/-- An element of stripe `n` of chunk `i` is the chunk's row's. -/
theorem stripe_value {i r : ℕ} {v : Vec F S1x16x1024 .f32} {a : ℕ} {b : Fin 1024} (y : S1x16x1024.Idx) (n : ℕ) (hr : r = 16 * n) (hv : v = stripeOf T i n)
    (ha : a = r + 1 * (y 1).val) (hb : b.val = 0 + 1 * (y 2).val) : v y = rowOf T i a b := by
  have hy1 : (y 1).val < 16 := (y 1).isLt
  have hy0 : (y 0).val < 1 := (y 0).isLt
  have hd : a / 16 = n := by omega
  unfold rowOf
  rw [hv, hd]
  refine congrArg _ ((eq_ix3 y).trans ?_)
  congr 1
  · exact Fin.ext (show (y 0).val = 0 by omega)
  · exact Fin.ext (show (y 1).val = a % 16 by omega)
  · exact Fin.ext (show (y 2).val = b.val by omega)

/-- The store of a stripe. -/
theorem ok_store {Q : α → sProp 𝕄} {i w n sl r : ℕ} {h hx hm v} {k : PUnit → Prog (TpuEff nD τ sig (Elt F) Λ₀ .tc) α}
    (H : Ok T (inside T i w (n + 1)) (k ⟨⟩) Q) (hsl : sl = i % 4) (hr : r = 16 * n) (hv : v = stripeOf T i n) :
    Ok T (inside T i w n) (.op (.store slots (Rect.unit (s := S4x512x1024) ![sl, r, 0] S1x16x1024.size h) v Finset.univ hx hm) k) Q := by
  constructor
  have H' := H.tri
  unfold inside filling at H' ⊢
  iintro ⟨Ht, Hy, ⟨Hs, %g, %hg, Hp⟩, H1, H2, H3, H4⟩
  iapply (wp_store Variants.none (c : Thread nD τ) none Set.univ (hx := hx) (hm := hm) (S := slotSet i) (f := g) (stripe_sub hsl)) $$ Hp
  iintro Hp
  iapply H'
  iframe Ht Hy Hs H1 H2 H3 H4
  iexists _
  iframe Hp
  ipureintro
  intro x h0 h1
  by_cases hx : x ∈ (slots.access (Rect.unit (s := S4x512x1024) ![sl, r, 0] S1x16x1024.size h)).set
  · have hb := (stripe_set x).mp hx
    obtain ⟨y, rfl⟩ := stripe_onto (h := h) x hb
    rw [View.write_emb_of_mem _ _ (Finset.mem_univ _)]
    have he := stripe_emb (h := h) y
    exact stripe_value T y n hr hv he.2.1 he.2.2
  · rw [View.write_of_not_mem _ _ _ hx]
    refine hg x h0 ?_
    rw [stripe_set] at hx
    omega

/-! ## Families over an interval -/

/-- The first of a family over an interval, beside the others. -/
theorem ico_left {i n : ℕ} (h : i < n) (Φ : ℕ → sProp 𝕄) : bigSep (Finset.Ico i n) Φ = iprop(Φ i ∗ bigSep (Finset.Ico (i + 1) n) Φ) := by
  have e : Finset.Ico i n = insert i (Finset.Ico (i + 1) n) := by ext x; simp only [Finset.mem_Ico, Finset.mem_insert]; omega
  rw [e, bigSep_insert (by simp)]
  rfl

/-- The last of a family over an interval, beside the others. -/
theorem ico_right {i n : ℕ} (h : i ≤ n) (Φ : ℕ → sProp 𝕄) : bigSep (Finset.Ico i (n + 1)) Φ = iprop(Φ n ∗ bigSep (Finset.Ico i n) Φ) := by
  have e : Finset.Ico i (n + 1) = insert n (Finset.Ico i n) := by ext x; simp only [Finset.mem_Ico, Finset.mem_insert]; omega
  rw [e, bigSep_insert (by simp)]
  rfl

/-- One more of a family over the first numbers. -/
theorem range_right {n : ℕ} (Φ : ℕ → sProp 𝕄) : bigSep (Finset.range (n + 1)) Φ = iprop(Φ n ∗ bigSep (Finset.range n) Φ) := by
  rw [Finset.range_add_one, bigSep_insert (by simp)]
  rfl

/-! ## Claiming a slot; the end -/

/-- A free slot becomes the one being filled. -/
theorem ok_open {Q : α → sProp 𝕄} {i w : ℕ} {p : Prog (TpuEff nD τ sig (Elt F) Λ₀ .tc) α}
    (H : Ok T (inside T i w 0) p Q) (hi : i < w + 4) : Ok T (idle T i w) p Q := by
  constructor
  refine BIBase.Entails.trans ?_ H.tri
  unfold inside idle filling
  rw [ico_left hi]
  iintro ⟨Ht, Hy, ⟨Hf, H1⟩, H2, H3, H4⟩
  unfold free
  icases Hf with ⟨Hs, %g, Hp⟩
  iframe Ht Hy Hs H2 H3 H4 H1
  iexists g
  iframe Hp
  ipureintro
  intro x _ h
  exact absurd h (Nat.not_lt_zero _)

/-- The end of the program. -/
theorem ok_ret {Q : α → sProp 𝕄} {P : sProp 𝕄} {v : α} (H : iprop(tables T ∗ P) ⊢ Q v) : Ok T P (.ret v) Q := by
  constructor
  rw [wp_ret]
  iintro HP
  imodintro
  iapply H $$ HP

/-! ## A chunk's copy out -/

/-- The source of chunk `i`'s copy: the first rows of its slot. -/
abbrev srcView (sl L : ℕ) (h : ∀ a, ![sl, 0, 0] a + (⟨3, ![1, L, 1024]⟩ : Shape).size a ≤ S4x512x1024.size a)
    (hu : ∀ a, (Rect.unit (s := S4x512x1024) ![sl, 0, 0] ((⟨3, ![1, L, 1024]⟩ : Shape).size) h).stride a = 1)
    (hs : (Rect.unit (s := S4x512x1024) ![sl, 0, 0] ((⟨3, ![1, L, 1024]⟩ : Shape).size) h).shape.Squeezes (⟨2, ![L, 1024]⟩ : Shape)) :
    Memref sig .tc .vmem ⟨2, ![L, 1024]⟩ .f32 :=
  (slots.slice (Rect.unit (s := S4x512x1024) ![sl, 0, 0] ((⟨3, ![1, L, 1024]⟩ : Shape).size) h) hu).squeeze (⟨2, ![L, 1024]⟩ : Shape) hs
/-- The target of a chunk's copy: its rows of the output. -/
abbrev dstView (st L : ℕ) (h : ∀ a, ![st, 0] a + (⟨2, ![L, 1024]⟩ : Shape).size a ≤ S8192x1024.size a)
    (hu : ∀ a, (Rect.unit (s := S8192x1024) ![st, 0] ((⟨2, ![L, 1024]⟩ : Shape).size) h).stride a = 1) :
    Memref sig .tc .hbm ⟨2, ![L, 1024]⟩ .f32 :=
  out.slice (Rect.unit (s := S8192x1024) ![st, 0] ((⟨2, ![L, 1024]⟩ : Shape).size) h) hu

/-- The elements copied from. -/
theorem src_set {i : ℕ} {h hu hs} : (srcView (i % 4) (len i) h hu hs).view.set = srcSet i := by
  refine (View.set_reshape _ _).trans ((View.set_slice_whole _ _).trans ?_)
  ext x
  have h2 : (x 2).val < 1024 := (x 2).isLt
  rw [Rect.mem_set_unit]
  unfold srcSet
  rw [Finset.mem_filter]
  constructor
  · intro H
    have h0 : i % 4 ≤ (x 0).val ∧ (x 0).val < i % 4 + 1 := H 0
    have h1 : 0 ≤ (x 1).val ∧ (x 1).val < 0 + len i := H 1
    exact ⟨Finset.mem_univ _, by omega, by omega⟩
  · rintro ⟨_, h0, h1⟩ a
    match a with
    | ⟨0, _⟩ => exact ⟨show i % 4 ≤ (x 0).val by omega, show (x 0).val < i % 4 + 1 by omega⟩
    | ⟨1, _⟩ => exact ⟨Nat.zero_le _, show (x 1).val < 0 + len i by omega⟩
    | ⟨2, _⟩ => exact ⟨Nat.zero_le _, show (x 2).val < 0 + 1024 by omega⟩

/-- The elements copied to. -/
theorem dst_set {i : ℕ} {h hu} : (dstView (start i) (len i) h hu).view.set = outSet i := by
  refine (View.set_slice_whole _ _).trans ?_
  ext x
  have h2 : (x 1).val < 1024 := (x 1).isLt
  rw [Rect.mem_set_unit]
  unfold outSet
  rw [Finset.mem_filter]
  constructor
  · intro H
    exact ⟨Finset.mem_univ _, H 0⟩
  · rintro ⟨_, h0⟩ a
    match a with
    | ⟨0, _⟩ => exact h0
    | ⟨1, _⟩ => exact ⟨Nat.zero_le _, show (x 1).val < 0 + 1024 by omega⟩

/-- A chunk's copy credits its cell. -/
theorem credit_pos {i : ℕ} (hi : i < 20) : 0 < credit i := by
  have hl : 0 < len i := by revert i; decide
  refine sig.dmaCredit_pos _ _ _ _ _ (Shape.numel_pos fun a => ?_)
  match a with
  | ⟨0, _⟩ => exact hl
  | ⟨1, _⟩ => exact (by decide : 0 < 1024)

/-- The rows copied from lie in the slot. -/
theorem src_sub (i : ℕ) : srcSet i ⊆ slotSet i := fun _ hx =>
  Finset.mem_filter.mpr ⟨Finset.mem_univ _, (Finset.mem_filter.mp hx).2.1⟩

/-- Where the copy's source puts an element, by coordinates. -/
theorem src_emb {sl L : ℕ} {h hu hs} (y : (⟨2, ![L, 1024]⟩ : Shape).Idx) :
    ((srcView sl L h hu hs).view.emb y 0).val = sl ∧ ((srcView sl L h hu hs).view.emb y 1).val = (y 0).val
      ∧ ((srcView sl L h hu hs).view.emb y 2).val = (y 1).val := by
  have e : (srcView sl L h hu hs).view.emb y
      = (Rect.unit (s := S4x512x1024) ![sl, 0, 0] ((⟨3, ![1, L, 1024]⟩ : Shape).size) h).emb (Shape.reshapeEquiv hs.numel_eq y) := rfl
  have e' : Shape.reshapeEquiv hs.numel_eq y = Fin.cons (⟨0, Nat.zero_lt_one⟩ : Fin 1) y := Shape.reshapeEquiv_cons_one _ y
  rw [e, e']
  exact ⟨show sl + 1 * 0 = sl by omega, show 0 + 1 * (y 0).val = (y 0).val by omega, show 0 + 1 * (y 1).val = (y 1).val by omega⟩

/-- Where the copy's target puts an element, by coordinates. -/
theorem dst_emb {st L : ℕ} {h hu} (y : (⟨2, ![L, 1024]⟩ : Shape).Idx) :
    ((dstView st L h hu).view.emb y 0).val = st + 1 * (y 0).val ∧ ((dstView st L h hu).view.emb y 1).val = 0 + 1 * (y 1).val := ⟨rfl, rfl⟩

/-- A row in chunk `i`'s range is the chunk's own row. -/
theorem ring_row {i : ℕ} (hi : i < 20) (x : S8192x1024.Idx) {y : ℕ} {j : Fin 1024} (hy : y < len i) (h0 : (x 0).val = start i + 1 * y)
    (h1 : (x 1).val = 0 + 1 * j.val) : ring T x = rowOf T i y j := by
  have hc : chunkOf (x 0).val = i := (mem_chunk_iff hi (x 0).isLt).mp ⟨by omega, by omega⟩
  unfold ring
  rw [hc]
  have hs : (x 0).val - start i = y := by omega
  have hj : (x 1 : Fin 1024) = j := Fin.ext (by omega)
  exact congr (congrArg _ hs) hj

/-- Each element of chunk `i` after its copy is the chunk's row's element. -/
theorem copied {i : ℕ} {h hu hs h' hu'} (hi : i < 20) (g : S4x512x1024.Idx → Elt F .f32) (f : S8192x1024.Idx → Elt F .f32)
    (hg : ∀ x : S4x512x1024.Idx, (x 0).val = i % 4 → (x 1).val < len i → g x = rowOf T i (x 1) (x 2)) (x : S8192x1024.Idx) (hx : x ∈ outSet i) :
    (dstView (start i) (len i) h' hu').view.write (Elt F) f ((srcView (i % 4) (len i) h hu hs).view.read (Elt F) g) Finset.univ x = ring T x := by
  rw [← dst_set (h := h') (hu := hu')] at hx
  obtain ⟨y, -, rfl⟩ := Finset.mem_map.mp hx
  have hy : (y 0).val < len i := (y 0).isLt
  have he := src_emb (h := h) (hu := hu) (hs := hs) y
  have hd := dst_emb (h := h') (hu := hu') y
  rw [View.write_emb_of_mem _ _ (Finset.mem_univ _), ring_row T hi _ hy hd.1 hd.2]
  refine (hg _ he.1 (he.2.1 ▸ hy)).trans ?_
  exact congr (congrArg _ he.2.1) (Fin.ext he.2.2)

/-- The start of a chunk's copy, once all its stripes are computed. -/
theorem ok_start {Q : α → sProp 𝕄} {i w n sl st L : ℕ} {sm : DmaSem sig} {h h' hu hu' hs} {h1 h2 h3} {k : PUnit → Prog (TpuEff nD τ sig (Elt F) Λ₀ .tc) α}
    (H : Ok T (idle T (i + 1) w) (k ⟨⟩) Q) (hwi : w ≤ i) (hi : i < 20) (hsl : sl = i % 4) (hst : st = start i) (hL : L = len i) (hn : 16 * n = L) (hsm : sm = cellAt i) :
    Ok T (inside T i w n) (.op (.enqueueDma ((slots.slice (Rect.unit (s := S4x512x1024) ![sl, 0, 0] ((⟨3, ![1, L, 1024]⟩ : Shape).size) h) hu).squeeze (⟨2, ![L, 1024]⟩ : Shape) hs)
      (.here (out.slice (Rect.unit (s := S8192x1024) ![st, 0] ((⟨2, ![L, 1024]⟩ : Shape).size) h') hu')) (.dma sm) h1 h2 h3) k) Q := by
  subst hsl hst hL hsm
  constructor
  have H' := H.tri
  unfold inside filling
  unfold idle at H'
  rw [ico_right hwi] at H'
  rw [ico_left hi]
  iintro ⟨Ht, Hy, ⟨Hs, %g, %hg, Hp⟩, H1, H2, H3, ⟨Hr, H4⟩⟩
  unfold raw
  icases Hr with ⟨%f, Hr⟩
  ihave Hp := (pointsTo_split_subset (src_sub i)).1 $$ Hp
  icases Hp with ⟨Hp, Hq⟩
  iapply (Transfers.wp_dmaLocal (countersEmb (U := Pipeline.UD sig nD τ)) Variants.none (c : Thread nD τ) none
    (src := srcView (i % 4) (len i) h hu hs) (dst := dstView (start i) (len i) h' hu') (hsrc := h1) (hdst := h2) (hsem := h3)
    (q := fullShare) (fs := g) (Sd := outSet i) (fd := f)
    () (credit i) rfl (credit_pos hi) (subset_of_eq dst_set)) $$ [Hp Hr Hs]
  · iframe Hr Hs
    rw [src_set]
    iexact Hp
  iintro HF
  iapply H'
  iframe Ht Hy H1 H2 H3 H4
  unfold flying
  iexists g
  iframe Hq
  iapply (Transfers.Flight_mono _ _ ?_) $$ HF
  rw [src_set]
  unfold done
  refine sep_mono (BIBase.Entails.of_eq (pointsTo_congr fun x hx => copied T hi g f (fun x h0 h1 => hg x h0 (hn ▸ h1)) x hx)) .rfl

/-- The wait for a chunk's copy. -/
theorem ok_wait {Q : α → sProp 𝕄} {i w st L : ℕ} {sm : DmaSem sig} {h hu sp s e} {src : Memref sig .tc sp s e} {h1 : src.view.WordExact} {h2} {k : PUnit → Prog (TpuEff nD τ sig (Elt F) Λ₀ .tc) α}
    (H : Ok T (idle T i (w + 1)) (k ⟨⟩) Q) (hw : w < i) (hi : i ≤ w + 4) (hL : L = len w) (hsm : sm = cellAt w) :
    Ok T (idle T i w) (.op (.waitDma2 sm src (out.slice (Rect.unit (s := S8192x1024) ![st, 0] ((⟨2, ![L, 1024]⟩ : Shape).size) h) hu) h1 h2) k) Q := by
  subst hL hsm
  constructor
  have H' := H.tri
  unfold idle at H' ⊢
  rw [show w + 1 + 4 = w + 4 + 1 by omega, ico_right hi, range_right] at H'
  rw [ico_left hw]
  unfold flying tally
  iintro ⟨Ht, ⟨%W, HO⟩, H1, ⟨HF, H2⟩, H3, H4⟩
  icases HF with ⟨%g, HF, Hq⟩
  iapply (Transfers.wp_waitLocal (countersEmb (U := Pipeline.UD sig nD τ)) Variants.none (c : Thread nD τ) none
    (srcw := src) (dstw := dstView st (len w) h hu) (hsrc := h1) (hdst := h2) () (N := credit w) rfl (W := W)) $$ [HF HO]
  · iframe
  iintro ⟨⟨Hd, Hp⟩, Hs, HO⟩
  iapply H'
  iframe Ht H1 H2 H3 H4 Hd
  isplitl [HO]
  · unfold tally
    iexists _
    iexact HO
  · unfold free
    have e4 : cellAt (w + 4) = cellAt w := by unfold cellAt; congr 2; exact Fin.ext (by show (w + 4) % 4 = w % 4; omega)
    have e5 : slotSet (w + 4) = slotSet w := by unfold slotSet; rw [show (w + 4) % 4 = w % 4 by omega]
    rw [e4, e5]
    iframe Hs
    iexists _
    iapply (pointsTo_join_subset (src_sub w))
    iframe Hp Hq

end Cert.Ring
-- ==== Proof.Ring.Body.lean ====
/-
  The body of the kernel, step by step: twenty chunks of stripes, each copied out while the next are computed.
-/
module

public import proofs.«01_k».proof.Proof.Gen.KernelIdeal.Skeleton
public import proofs.«01_k».proof.Proof.Ring.Steps

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (T : Tables F c)

set_option maxHeartbeats 0 in
set_option maxRecDepth 100000 in
/-- The kernel's body: from the ring empty and the output at any contents to the output holding `ring` and the ring
    empty again. -/
theorem body_ok (h0 h1 h2 h3 h4 h5 h6 h7) : Ok T (idle T 0 0)
    (cc0__ring_kernel T.a0 h0 T.a1 h1 T.a2 h2 T.a3 h3 T.a4 h4 T.a5 h5 out h6 slots h7 cc0_scratch1)
    (fun _ => iprop(tables T ∗ idle T 20 20)) := by
  refine ok_open T ?_ (by decide)
  refine ok_load4 T ?_
  refine ok_load5 T ?_
  refine ok_load0 T ?_
  refine ok_load1 T ?_
  iterate 2
    iterate 8
      refine ok_load2 T ?_
      refine ok_load3 T ?_
      refine ok_peek T (fun v => ?_) rfl
      refine ok_store T ?_ rfl rfl (by sl_kernel_rfl)
      clear v
    refine ok_start T ?_ (by decide) (by decide) rfl rfl rfl rfl (by sl_kernel_rfl)
    refine ok_open T ?_ (by decide)
    refine ok_load0 T ?_
    refine ok_load1 T ?_
  iterate 16
    refine ok_load2 T ?_
    refine ok_load3 T ?_
    refine ok_peek T (fun v => ?_) rfl
    refine ok_store T ?_ rfl rfl (by sl_kernel_rfl)
    clear v
  refine ok_start T ?_ (by decide) (by decide) rfl rfl rfl rfl (by sl_kernel_rfl)
  refine ok_open T ?_ (by decide)
  refine ok_load0 T ?_
  refine ok_load1 T ?_
  iterate 14
    iterate 32
      refine ok_load2 T ?_
      refine ok_load3 T ?_
      refine ok_peek T (fun v => ?_) rfl
      refine ok_store T ?_ rfl rfl (by sl_kernel_rfl)
      clear v
    refine ok_start T ?_ (by decide) (by decide) rfl rfl rfl rfl (by sl_kernel_rfl)
    refine ok_wait T ?_ (by decide) (by decide) rfl (by sl_kernel_rfl)
    refine ok_open T ?_ (by decide)
    refine ok_load0 T ?_
    refine ok_load1 T ?_
  iterate 16
    refine ok_load2 T ?_
    refine ok_load3 T ?_
    refine ok_peek T (fun v => ?_) rfl
    refine ok_store T ?_ rfl rfl (by sl_kernel_rfl)
    clear v
  refine ok_start T ?_ (by decide) (by decide) rfl rfl rfl rfl (by sl_kernel_rfl)
  refine ok_wait T ?_ (by decide) (by decide) rfl (by sl_kernel_rfl)
  refine ok_open T ?_ (by decide)
  refine ok_load0 T ?_
  refine ok_load1 T ?_
  iterate 8
    refine ok_load2 T ?_
    refine ok_load3 T ?_
    refine ok_peek T (fun v => ?_) rfl
    refine ok_store T ?_ rfl rfl (by sl_kernel_rfl)
    clear v
  refine ok_start T ?_ (by decide) (by decide) rfl rfl rfl rfl (by sl_kernel_rfl)
  refine ok_wait T ?_ (by decide) (by decide) rfl (by sl_kernel_rfl)
  refine ok_open T ?_ (by decide)
  refine ok_load0 T ?_
  refine ok_load1 T ?_
  iterate 8
    refine ok_load2 T ?_
    refine ok_load3 T ?_
    refine ok_peek T (fun v => ?_) rfl
    refine ok_store T ?_ rfl rfl (by sl_kernel_rfl)
    clear v
  refine ok_start T ?_ (by decide) (by decide) rfl rfl rfl rfl (by sl_kernel_rfl)
  refine ok_wait T ?_ (by decide) (by decide) rfl (by sl_kernel_rfl)
  iterate 3
    refine ok_wait T ?_ (by decide) (by decide) rfl (by sl_kernel_rfl)
  exact ok_ret T .rfl

end Cert.Ring
-- ==== Proof.Ring.Ends.lean ====
/-
  The ring's two ends: what the core holds on entry is the ring idle with nothing started, and the ring idle with
  all started and waited for is what the core holds on exit.
-/
module

public import proofs.«01_k».proof.Proof.Ring.Steps

@[expose] public section

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} (T : Tables F c)

/-! ## The slots and the row blocks tile their buffers -/

/-- Different slots of the same four share no element. -/
theorem slot_disj (a : ℕ) : ∀ k ∈ Finset.Ico a (a + 4), ∀ l ∈ Finset.Ico a (a + 4), k ≠ l → Disjoint (slotSet k) (slotSet l) := by
  intro k hk l hl h
  rw [Finset.mem_Ico] at hk hl
  refine Finset.disjoint_left.2 fun i hi hj => ?_
  have h1 := (Finset.mem_filter.1 hi).2
  have h2 := (Finset.mem_filter.1 hj).2
  omega

/-- Four chunks in a row use all the slots. -/
theorem slot_all (a : ℕ) : (Finset.Ico a (a + 4)).biUnion slotSet = Finset.univ := by
  ext i
  simp only [Finset.mem_biUnion, Finset.mem_univ, iff_true]
  have hi : (i 0).val < 4 := (i 0).isLt
  refine ⟨a + ((i 0).val + 4 - a % 4) % 4, Finset.mem_Ico.2 ⟨by omega, by omega⟩, ?_⟩
  exact Finset.mem_filter.2 ⟨Finset.mem_univ _, by omega⟩

/-- Different chunks' rows share no element. -/
theorem rows_disj : ∀ k ∈ Finset.range 20, ∀ l ∈ Finset.range 20, k ≠ l → Disjoint (outSet k) (outSet l) := by
  intro k hk l hl h
  rw [Finset.mem_range] at hk hl
  refine Finset.disjoint_left.2 fun i hi hj => h ?_
  have hr : (i 0).val < 8192 := (i 0).isLt
  exact ((mem_chunk_iff hk hr).1 (Finset.mem_filter.1 hi).2).symm.trans ((mem_chunk_iff hl hr).1 (Finset.mem_filter.1 hj).2)

/-- The chunks' rows are all the rows. -/
theorem rows_all : (Finset.range 20).biUnion outSet = Finset.univ := by
  ext i
  simp only [Finset.mem_biUnion, Finset.mem_univ, iff_true]
  have hr : (i 0).val < 8192 := (i 0).isLt
  obtain ⟨h1, h2, h3⟩ := chunkOf_spec hr
  exact ⟨chunkOf (i 0), Finset.mem_range.2 h1, Finset.mem_filter.2 ⟨Finset.mem_univ _, h2, h3⟩⟩

/-! ## Entry and exit -/

/-- The four cells at zero. -/
theorem cells_eq : (bigSep (Finset.Ico 0 4) (fun k => semVal ((c : Thread nD τ), SemLoc.dma (cellAt k)) 0) : sProp 𝕄)
    = bigSep (Finset.Ico 20 24) (fun k => semVal ((c : Thread nD τ), SemLoc.dma (cellAt k)) 0) := by
  rw [show Finset.Ico 20 24 = (Finset.Ico 0 4).map ⟨fun k => k + 20, fun _ _ h => by simpa using h⟩ from by decide]
  rw [bigSep_map]
  rfl

theorem free_of_whole (g : Buf (Elt F) (slots.view.loc (c : Thread nD τ))) :
    iprop((slots.view.loc (c : Thread nD τ) ↦[Finset.univ]{fullShare} g) ∗ bigSep (Finset.Ico 0 4) (fun k => semVal ((c : Thread nD τ), SemLoc.dma (cellAt k)) 0))
      ⊢ (bigSep (Finset.Ico 0 4) (free (F := F) c) : sProp 𝕄) := by
  rw [← slot_all 0, pointsTo_biUnion _ _ (slot_disj 0)]
  refine BIBase.Entails.trans (BIBase.Entails.of_eq (bigSep_sep' (Finset.Ico 0 4) _ _).symm) (bigSep_mono fun k _ => ?_)
  unfold free
  refine (show iprop((slots.view.loc (c : Thread nD τ) ↦[slotSet k]{fullShare} g) ∗ semVal ((c : Thread nD τ), SemLoc.dma (cellAt k)) 0) ⊢ _ from ?_)
  iintro ⟨H, Hs⟩
  isplitl [Hs]
  · iexact Hs
  iexists g
  iexact H

theorem whole_of_free : (bigSep (Finset.Ico 20 24) (free (F := F) c) : sProp 𝕄)
    ⊢ iprop((∃ g : Buf (Elt F) (slots.view.loc (c : Thread nD τ)), slots.view.loc (c : Thread nD τ) ↦[Finset.univ]{fullShare} g)
        ∗ bigSep (Finset.Ico 0 4) (fun k => semVal ((c : Thread nD τ), SemLoc.dma (cellAt k)) 0)) := by
  unfold free
  refine BIBase.Entails.trans (BIBase.Entails.of_eq (bigSep_sep' (Finset.Ico 20 24) _ _)) ?_
  rw [← cells_eq]
  have h := (bigSep_exists_pi (Finset.Ico 20 24) fun k (g : Buf (Elt F) (slots.view.loc (c : Thread nD τ))) =>
    (slots.view.loc (c : Thread nD τ) ↦[slotSet k]{fullShare} g : sProp 𝕄))
  iintro ⟨Hs, H⟩
  isplitr [Hs]
  · ihave H := h $$ H
    icases H with ⟨%y, H⟩
    ihave H := (pointsTo_biUnion_join (Finset.Ico 20 24) slotSet y (y 0) (slot_disj 20)) $$ H
    icases H with ⟨%g, -, H⟩
    iexists g
    rw [← slot_all 20]
    iexact H
  · iexact Hs

theorem raw_of_whole (f : Buf (Elt F) (out.view.loc (c : Thread nD τ))) :
    (out.view.loc (c : Thread nD τ) ↦[Finset.univ]{fullShare} f : sProp 𝕄) ⊢ bigSep (Finset.Ico 0 20) (raw F c) := by
  rw [← rows_all, pointsTo_biUnion _ _ rows_disj, ← Finset.range_eq_Ico]
  refine bigSep_mono fun k _ => ?_
  have h : iprop(emp ∗ (out.view.loc (c : Thread nD τ) ↦[outSet k]{fullShare} f)) ⊢ (raw F c k : sProp 𝕄) := by
    unfold raw
    iintro ⟨-, H⟩
    iexists f
    iexact H
  exact BIBase.Entails.trans (BIBase.Entails.of_eq (BI.equiv_iff.mp emp_sep).symm) h

theorem whole_of_done : (bigSep (Finset.range 20) (done T) : sProp 𝕄)
    ⊢ (out.view.loc (c : Thread nD τ) ↦[Finset.univ]{fullShare} (ring T : Buf (Elt F) (out.view.loc (c : Thread nD τ)))) := by
  rw [← rows_all, pointsTo_biUnion _ _ rows_disj]
  exact .rfl

/-- On entry: the slots, their cells and the output, with nothing started. -/
theorem enter (g : Buf (Elt F) (slots.view.loc (c : Thread nD τ))) (f : Buf (Elt F) (out.view.loc (c : Thread nD τ))) :
    iprop(tally F c ∗ (slots.view.loc (c : Thread nD τ) ↦[Finset.univ]{fullShare} g)
      ∗ bigSep (Finset.Ico 0 4) (fun k => semVal ((c : Thread nD τ), SemLoc.dma (cellAt k)) 0)
      ∗ (out.view.loc (c : Thread nD τ) ↦[Finset.univ]{fullShare} f)) ⊢ (idle T 0 0 : sProp 𝕄) := by
  unfold idle
  iintro ⟨Ht, Hg, Hs, Hf⟩
  isplitl [Ht]; · iexact Ht
  isplitl [Hg Hs]
  · iapply (free_of_whole g)
    isplitl [Hg]; · iexact Hg
    iexact Hs
  rw [Finset.Ico_self, Finset.range_zero, bigSep_empty, bigSep_empty]
  isplitr; · iempintro
  isplitr; · iempintro
  iapply (raw_of_whole f)
  iexact Hf

/-- On exit: the slots at whatever they hold, their cells at zero, and the output computed. -/
theorem leave : (idle T 20 20 : sProp 𝕄) ⊢ iprop(tally F c ∗ (∃ g : Buf (Elt F) (slots.view.loc (c : Thread nD τ)), slots.view.loc (c : Thread nD τ) ↦[Finset.univ]{fullShare} g)
      ∗ bigSep (Finset.Ico 0 4) (fun k => semVal ((c : Thread nD τ), SemLoc.dma (cellAt k)) 0)
      ∗ (out.view.loc (c : Thread nD τ) ↦[Finset.univ]{fullShare} (ring T : Buf (Elt F) (out.view.loc (c : Thread nD τ))))) := by
  unfold idle
  iintro ⟨Ht, Hf, -, Hd, -⟩
  isplitl [Ht]; · iexact Ht
  ihave H := (whole_of_free (F := F) (c := c)) $$ Hf
  icases H with ⟨Hg, Hs⟩
  isplitl [Hg]; · iexact Hg
  isplitl [Hs]; · iexact Hs
  iapply (whole_of_done T)
  iexact Hd

end Cert.Ring
-- ==== Proof.Ring.Launch.lean ====
/-
  The launch: the pipeline stages the six tables, the ring runs once, and the host line after it puts the output in
  the result's shape. Stated of any floats.
-/
module

public import proofs.«01_k».proof.Proof.Gen.KernelIdeal.Frame
public import proofs.«01_k».proof.Proof.Ring.Body
public import proofs.«01_k».proof.Proof.Ring.Ends

@[expose] public section

set_option maxRecDepth 16384

noncomputable section

namespace Cert.Ring

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- Row `k` of a table of 1024 lanes. -/
def tableRow {n : ℕ} (A : Vec F ⟨2, ![n, 1024]⟩ .f32) (k : Fin n) : Vec F S1x1024 .f32 := fun y => A (ix2 k (y 1))

/-- The ring's output from the six tables. -/
def ringFrom (A0 A1 : Vec F S20x1024 .f32) (A2 A3 : Vec F S32x1024 .f32) (A4 A5 : Vec F S16x1024 .f32) (i : S8192x1024.Idx) : Elt F .f32 :=
  stripe (tableRow (n := 20) A0 ⟨chunkOf (i 0) % 20, Nat.mod_lt _ (by decide)⟩) (tableRow (n := 20) A1 ⟨chunkOf (i 0) % 20, Nat.mod_lt _ (by decide)⟩)
    (tableRow (n := 32) A2 ⟨((i 0).val - start (chunkOf (i 0))) / 16 % 32, Nat.mod_lt _ (by decide)⟩)
    (tableRow (n := 32) A3 ⟨((i 0).val - start (chunkOf (i 0))) / 16 % 32, Nat.mod_lt _ (by decide)⟩) A4 A5
    (ix3 0 ⟨((i 0).val - start (chunkOf (i 0))) % 16, Nat.mod_lt _ (by decide)⟩ (i 1))

theorem ring_eq {c : Dev nD} (T : Tables F c) : ring T = ringFrom (T.a0.view.read (Elt F) T.f0) (T.a1.view.read (Elt F) T.f1)
    (T.a2.view.read (Elt F) T.f2) (T.a3.view.read (Elt F) T.f3) (T.a4.view.read (Elt F) T.f4) (T.a5.view.read (Elt F) T.f5) := rfl

variable (m : (ℓ : Loc nD τ sig) → Buf (Elt F) ℓ) (ρ : Dev nD → PrngReg)

/-- The kernel's own semaphore cells. -/
abbrev osem0 : Fin 4 → SemLoc sig := fun k => .dma (cellAt k.val)
theorem ownSemFacts0 : Pipeline.OwnSemFacts spec0 osem0 := by decide

/-- What the region leaves in the output: the ring's output from the staged tables; every other buffer as it was. -/
def G (c : Dev nD) (b : Ref sig .tc) : Buf (Elt F) ((c : Thread nD τ).loc b) :=
  if h : b = main_v42 then h ▸ (ringFrom (iblk m c 0 t0_0) (iblk m c 1 t0_0) (iblk m c 2 t0_0) (iblk m c 3 t0_0) (iblk m c 4 t0_0) (iblk m c 5 t0_0)
      : Buf (Elt F) ((c : Thread nD τ).loc main_v42))
  else V m c b

theorem G_out (c : Dev nD) : G m c main_v42 = (ringFrom (iblk m c 0 t0_0) (iblk m c 1 t0_0) (iblk m c 2 t0_0) (iblk m c 3 t0_0) (iblk m c 4 t0_0) (iblk m c 5 t0_0)
      : Buf (Elt F) ((c : Thread nD τ).loc main_v42)) := dif_pos rfl

/-- What goes by beside the staged tables, with the output at `B`. -/
abbrev side (B : (c : Dev nD) → (b : Ref sig .tc) → Buf (Elt F) ((c : Thread nD τ).loc b)) (c : Dev nD) : sProp 𝕄 :=
  Pipeline.ΦDRV osem0 spec0 ∅ {main_v42} (V m) B c

theorem cells_own (c : Dev nD) : (Pipeline.ownSems0 (Ix := Unit) (Name := ℕ) (U := Pipeline.UD sig nD τ) (Lvl := ℕ) (Val := Elt F) (τ := τ) osem0 c : sProp 𝕄)
    = bigSep (Finset.Ico 0 4) (fun k => semVal ((c : Thread nD τ), SemLoc.dma (cellAt k)) 0) := by
  rw [show Finset.Ico 0 4 = (Finset.univ : Finset (Fin 4)).map Fin.valEmbedding from by decide, bigSep_map]
  rfl

theorem side_eq (B : (c : Dev nD) → (b : Ref sig .tc) → Buf (Elt F) ((c : Thread nD τ).loc b)) (c : Dev nD) :
    side m B c = iprop((∃ g : Buf (Elt F) (slots.view.loc (c : Thread nD τ)), slots.view.loc (c : Thread nD τ) ↦[Finset.univ]{fullShare} g)
      ∗ bigSep (Finset.Ico 0 4) (fun k => semVal ((c : Thread nD τ), SemLoc.dma (cellAt k)) 0)
      ∗ emp ∗ ((c : Thread nD τ).loc main_v42 ↦[Finset.univ]{fullShare} B c main_v42)) := by
  unfold side Pipeline.ΦDRV
  rw [scopedRest0_eq, bigSep_empty, bigSep_singleton, cells_own]
  rfl

/-- The proof data of the one pipeline: the tables as the region finds them and leaves them; beside them the slots, the
    cells and the output, before the point as found and after it computed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := if t.val = 0 then side m (V m) c else side m (G m) c
  q _ := fullShare
  owed _ := 0

theorem A_eq (c : Dev nD) (w : Fin cfg0.W) : (dats m 0 c).A w = V m c (Pipeline.arrRef spec0 w) := by
  dsimp only [dats]

theorem Phi_first (c : Dev nD) : (dats m 0 c).Φ 0 = side m (V m) c := by dsimp only [dats]; rfl
theorem Phi_last (c : Dev nD) : (dats m 0 c).Φ (Fin.last cfg0.N) = side m (G m) c := by
  dsimp only [dats]; exact if_neg (by show grid0.N ≠ 0; rw [N_0]; decide)

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]

/-- A staged table is there at the point: it is fetched whole. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- What the body is called with at the point, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A staged table held: its buffer whole, at contents that read as given. -/
theorem owns_open {s : Shape} {sp : Space} (c : Dev nD) (a : Memref sig .tc sp s .f32) (h : a.IsWhole) (X : Vec F s .f32) :
    (owns (c : Thread nD τ) a fullShare X : sProp 𝕄)
      = iprop(∃ f : Buf (Elt F) (a.view.loc (c : Thread nD τ)), ⌜a.view.read (Elt F) f = X⌝ ∗ (a.view.loc (c : Thread nD τ) ↦[Finset.univ]{fullShare} f)) := by
  unfold owns
  rw [h.set_eq_univ]

set_option maxHeartbeats 800000 in
theorem sound_body (c : Dev nD) (t : Fin cfg0.N) :
    bodyPre m c t ⊢ wp frame (wpE (defs₀ (F := F)) Variants.none (c : Thread nD τ) none) Set.univ (bodyAt0 t) (fun _ => bodyPost m c t) := by
  obtain rfl := fin_N0 t
  unfold bodyPre bodyPost bodyAt0
  rw [show (dats m 0 c).Φ t0_0.castSucc = side m (V m) c from Phi_first m c,
    show (dats m 0 c).Φ t0_0.succ = side m (G m) c from Phi_last m c, side_eq, side_eq, G_out]
  simp only [before0, before1, before2, before3, before4, before5, after0, after1, after2, after3, after4, after5]
  unfold Dat.owesAt Pipeline.owesWithin
  rw [show (dats m 0 c).owed t0_0.castSucc = 0 from rfl, show (dats m 0 c).owed t0_0.succ = 0 from rfl]
  rw [owns_open c (st0_0 t0_0) (stage_whole0 0 _), owns_open c (st0_1 t0_0) (stage_whole0 1 _), owns_open c (st0_2 t0_0) (stage_whole0 2 _),
    owns_open c (st0_3 t0_0) (stage_whole0 3 _), owns_open c (st0_4 t0_0) (stage_whole0 4 _), owns_open c (st0_5 t0_0) (stage_whole0 5 _)]
  iintro ⟨⟨⟨%g, Hg⟩, Hs, -, Ho⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  have hrun := (body_ok (F := F) (c := c) ⟨st0_0 t0_0, st0_1 t0_0, st0_2 t0_0, st0_3 t0_0, st0_4 t0_0, st0_5 t0_0, f0, f1, f2, f3, f4, f5⟩
    (hstage0_0 0) (hstage0_1 0) (hstage0_2 0) (hstage0_3 0) (hstage0_4 0) (hstage0_5 0) (Memref.isWhole_whole _) (Memref.isWhole_whole _)).tri
  have hring := ring_eq (F := F) (c := c) ⟨st0_0 t0_0, st0_1 t0_0, st0_2 t0_0, st0_3 t0_0, st0_4 t0_0, st0_5 t0_0, f0, f1, f2, f3, f4, f5⟩
  have hin := enter (F := F) (c := c) ⟨st0_0 t0_0, st0_1 t0_0, st0_2 t0_0, st0_3 t0_0, st0_4 t0_0, st0_5 t0_0, f0, f1, f2, f3, f4, f5⟩ g (V m c main_v42)
  have hout := leave (F := F) (c := c) ⟨st0_0 t0_0, st0_1 t0_0, st0_2 t0_0, st0_3 t0_0, st0_4 t0_0, st0_5 t0_0, f0, f1, f2, f3, f4, f5⟩
  rw [hring] at hout
  dsimp only at hout
  rw [e0, e1, e2, e3, e4, e5] at hout
  unfold tally at hin hout
  unfold tables at hrun
  ihave Hi := hin $$ [HW Hg Hs Ho]
  · isplitl [HW]; · iexists W; iexact HW
    isplitl [Hg]; · iexact Hg
    isplitl [Hs]; · iexact Hs
    iexact Ho
  ihave H := hrun $$ [H0 H1 H2 H3 H4 H5 Hi]
  · isplitr [Hi]
    · isplitl [H0]; · iexact H0
      isplitl [H1]; · iexact H1
      isplitl [H2]; · iexact H2
      isplitl [H3]; · iexact H3
      isplitl [H4]; · iexact H4
      iexact H5
    iexact Hi
  iapply (wp_wand frame (wpE (defs₀ (F := F)) Variants.none (c : Thread nD τ) none) Set.univ) $$ H
  iintro %a ⟨⟨H0, H1, H2, H3, H4, H5⟩, Hi⟩
  ihave Hi := hout $$ Hi
  icases Hi with ⟨⟨%W', HW⟩, Hg, Hs, Ho⟩
  isplitl [Hg Hs Ho]
  · isplitl [Hg]; · iexact Hg
    isplitl [Hs]; · iexact Hs
    isplitr; · iempintro
    iexact Ho
  isplitl [HW]
  · iexists W'; isplitr; · ipureintro; exact fun _ _ => Or.inl trivial
    iexact HW
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  iexists f5; isplitr; · ipureintro; exact e5
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The program around its one region. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2, hostOps0_3, hostOps0_4, hostOps0_5, hostOps0_6, hostOps0_7, hostOps0_8] [hostOps1] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The result: the ring's output in the result's shape. -/
abbrev result (c : Dev nD) : Buf (Elt F) ((c : Thread nD τ).loc main_v43) :=
  (broadcastInDim S1x8192x1024 ![1, 2] bcast_S8192x1024_S1x8192x1024_1_2 : (⟨S8192x1024, .f32⟩ : BufTy).Contents (Elt F) → (⟨S1x8192x1024, .f32⟩ : BufTy).Contents (Elt F))
    (ringFrom (iblk m c 0 t0_0) (iblk m c 1 t0_0) (iblk m c 2 t0_0) (iblk m c 3 t0_0) (iblk m c 4 t0_0) (iblk m c 5 t0_0))

/-- A buffer that is no staged table, not the output and not the result ends as the region found it. -/
theorem kept (c : Dev nD) (X : (w : Fin cfg0.W) → Buf (Elt F) (((cfg0.spec w).arr.view.loc (c : Thread nD τ)))) (b : Ref sig .tc)
    (h : ∀ w, Pipeline.arrRef spec0 w ≠ b) (h' : b ∉ ({main_v42} : Finset (Ref sig .tc))) (h'' : b ≠ main_v43)
    (hV : V m c b = m ((c : Thread nD τ).loc b)) :
    StableHlo.after ([hostOps1].flatten) (Pipeline.withArrays spec0 c (Pipeline.withR (V0 m c) {main_v42} c (G m c)) X) (Proc.devRef .tc b)
      = m ((c : Thread nD τ).loc b) := by
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h'')),
    Pipeline.withArrays_of_ne _ c _ _ b h, Pipeline.withR_of_not_mem _ _ _ _ _ h']
  exact hV

/-- The line after the region reads the output as the ring left it. -/
theorem after_result (c : Dev nD) (X : (w : Fin cfg0.W) → Buf (Elt F) (((cfg0.spec w).arr.view.loc (c : Thread nD τ)))) :
    StableHlo.after ([hostOps1].flatten) (Pipeline.withArrays spec0 c (Pipeline.withR (V0 m c) {main_v42} c (G m c)) X) (Proc.devRef .tc main_v43)
      = result m c := by
  have e : (Pipeline.withArrays spec0 c (Pipeline.withR (V0 m c) {main_v42} c (G m c)) X) (Proc.devRef .tc main_v42) = _ :=
    (Pipeline.withArrays_of_ne _ c _ _ main_v42 (by decide)).trans
      ((Pipeline.withR_of_mem _ _ _ _ _ (Finset.mem_singleton_self _)).trans (G_out m c))
  simp only [hostOps1, List.flatten_cons, List.flatten_nil, List.append_nil, StableHlo.after_cons, StableHlo.after_nil]
  rw [StableHlo.unary_result, e]

set_option backward.isDefEq.respectTransparency.types false in
/-- The run: both arguments end as they were, the result at `result`, every semaphore at zero. -/
theorem run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v43) = result m c) ∧ r.2.sem = fun _ => 0) :=
  Pipeline.θ_run_frame_dmaR_aroundV (Q' := _) cfgs (dats m) (0 : Fin 1) launch0 osem0 defs₀ Variants.none ownSemFacts0 ∅ {main_v42}
    (Finset.empty_subset _) (by decide) m ρ main
    (hbody := fun c => (body_obligation m c).loose) (hshare := fun c => (dats m 0 c).share_full fun _ => rfl)
    (howed := fun _ _ => rfl) (V₀ := V0 m) (opss := [hostOps1]) sfx_sub sfx_fresh sfx_keeps (G m)
    (hmain := main_around m) (hA := A_eq m)
    (hin := fun c => .of_eq (Phi_first m c).symm) (hout := fun c => .of_eq (Phi_last m c))
    (hQ' := fun r h => ⟨fun c =>
      ⟨((h.1 c).2 main_arg0 (Pipeline.mem_restRefs_of main_arg0 (by decide) (by decide))).trans (kept m c _ main_arg0 (by decide) (by decide) (by decide) (V_main_arg0 m c)),
       ((h.1 c).2 main_arg1 (Pipeline.mem_restRefs_of main_arg1 (by decide) (by decide))).trans (kept m c _ main_arg1 (by decide) (by decide) (by decide) (V_main_arg1 m c)),
       ((h.1 c).2 main_v43 (Pipeline.mem_restRefs_of main_v43 (by decide) (by decide))).trans (after_result m c _)⟩, h.2⟩)

end Cert.Ring
-- ==== Proof.Frames.lean ====
/-
  Every program runs, leaves its arguments as they were and ends with every semaphore at zero. The kernel over bit
  patterns is the same text as the kernel over reals, so the one run serves both.
-/
module

public import proofs.«01_k».proof.Defs
public import proofs.«01_k».proof.Proof.Gen.Kernel
public import proofs.«01_k».proof.Proof.Gen.ReferenceIdeal
public import proofs.«01_k».proof.Proof.Gen.Pre_pe_is_table
public import proofs.«01_k».proof.Proof.Gen.TableIdeal.Run
public import proofs.«01_k».proof.Proof.Ring.Launch
public import Idealize.ShloMosaic.Lib.Quiescent
public import Idealize.ShloMosaic.Lib.Tactic

@[expose] public section

set_option maxRecDepth 100000
set_option maxHeartbeats 4000000

noncomputable section

namespace Cert.Frames

open Idealize.ShloMosaic Idealize.ShloMosaic.TcCoe Idealize.ShloMosaic.Tactic Idealize.SL.Sem

attribute [local instance] Cert.Kernel.Gen.facts Cert.KernelIdeal.Gen.facts Cert.ReferenceIdeal.Gen.facts Cert.TableIdeal.Gen.facts Cert.Pre_pe_is_table.Gen.facts

variable {F : FTy → Type} [FloatOps F]

/-- The two kernels have one text. -/
theorem main_eq : (@Cert.Kernel.main F _ _ : _) = @Cert.KernelIdeal.main F _ _ := by sl_kernel_rfl
theorem defs_eq : (@Cert.Kernel.defs F _ _ : _) = @Cert.KernelIdeal.defs F _ _ := by sl_kernel_rfl

theorem kernel : Cert.quiescent_Kernel := by
  intro m g _
  rw [main_eq, defs_eq]
  exact (θ_run _ _ _).mono (fun r h => ⟨fun c => ⟨(h.1 c).1, (h.1 c).2.1⟩, h.2⟩) (Cert.Ring.run (F := Bits) m g)

theorem kernelIdeal : Cert.quiescent_KernelIdeal := fun m g _ =>
  (θ_run _ _ _).mono (fun _ h => ⟨fun c => ⟨(h.1 c).1, (h.1 c).2.1⟩, h.2⟩) (Cert.Ring.run (F := Ideal) m g)

theorem kernelIdeal_pre : Cert.quiescent_KernelIdeal_pre_pe_is_table := fun m g _ => kernelIdeal m g trivial

theorem tableIdeal : Cert.quiescent_TableIdeal := fun m g _ =>
  (θ_run _ _ _).mono (fun r h => ⟨fun c => (h c).2, sem_eq_zero_of_no_sems (by decide) r.2⟩) (Cert.TableIdeal.Value.run (F := Ideal) m g)

/-- The reference returns its second argument: it runs no operation. -/
theorem reference_run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      fun r => ∀ (d : Dev Cert.ReferenceIdeal.nD) (b : Ref Cert.ReferenceIdeal.sig .tc),
        r.2.mem ((d.tc : Thread Cert.ReferenceIdeal.nD Cert.ReferenceIdeal.τ).loc b) = m ((d.tc : Thread Cert.ReferenceIdeal.nD Cert.ReferenceIdeal.τ).loc b) :=
  StableHlo.run_seq (by decide) (by decide) Cert.ReferenceIdeal.defs Cert.ReferenceIdeal.main (fun _ => []) (fun _ => rfl) (fun _ => trivial) m g

theorem referenceIdeal : Cert.quiescent_ReferenceIdeal := fun m g _ =>
  (θ_run _ _ _).mono (fun r h => ⟨fun c => ⟨h c Cert.ReferenceIdeal.main_arg0, h c Cert.ReferenceIdeal.main_arg1⟩, sem_eq_zero_of_no_sems (by decide) r.2⟩) (reference_run m g)

theorem referenceIdeal_pre : Cert.quiescent_ReferenceIdeal_pre_pe_is_table := fun m g _ => referenceIdeal m g trivial

end Cert.Frames
-- ==== Proof.Host.lean ====
/-
  The six tables the host builds before the launch, as the host's own operations, for any float values: the sines and
  cosines of the chunk starts, of the stripe offsets and of the offsets in a stripe, each times the lane's frequency.
-/
module

public import proofs.«01_k».proof.Proof.Gen.KernelIdeal.Frame
public import Idealize.ShloMosaic.Lib.StableHlo.RunRead
public import Idealize.ShloMosaic.Lib.ValueIdx

@[expose] public section

set_option maxRecDepth 16384

noncomputable section

namespace Cert.Host

open Cert.KernelIdeal Cert.KernelIdeal.Gen
open Idealize.ShloMosaic Idealize.ShloMosaic.TcCoe Idealize.ShloMosaic.ValueIdx Idealize.ShloMosaic.StableHlo

variable {F : FTy → Type} [FloatOps F]

/-- The lane numbers and the number two on every lane. -/
abbrev lane : IVec S1024 32 := iotaInDim S1024 32 0
abbrev onLanes (x : IVec S_ 32) : IVec S1024 32 := broadcastInDim S1024 ![] bcast_S_S1024 x
abbrev two : IVec S_ 32 := constantI S_ 32 2
abbrev zero : IVec S_ 32 := constantI S_ 32 0
abbrev one : IVec S_ 32 := constantI S_ 32 1

/-- Half the lane number, rounded down. -/
def half : IVec S1024 32 :=
  select (andi (cmpi .ne (signi lane) (onLanes (signi two))) (cmpi .ne (Host.remsi lane (onLanes two)) (onLanes zero)))
    (subi (Host.divsi lane (onLanes two)) (onLanes one)) (Host.divsi lane (onLanes two))

/-- The divisor of the remainder. -/
abbrev divisor : IVec S_ 32 := select (cmpi .eq two zero) one two

/-- The lane number modulo two. -/
def parity : IVec S1024 32 :=
  select (andi (cmpi .ne (cmpi .slt (Host.remsi lane (onLanes divisor)) (onLanes zero)) (broadcastInDim S1024 ![] bcast_S_S1024 (cmpi .slt divisor zero)))
      (cmpi .ne (Host.remsi lane (onLanes divisor)) (onLanes zero)))
    (addi (Host.remsi lane (onLanes divisor)) (onLanes divisor)) (Host.remsi lane (onLanes divisor))

/-- The even lanes. -/
def even : IVec S1024 1 := cmpi .eq parity (onLanes zero)

/-- The frequency of each lane. -/
def freq : Vec F S1024 .f32 :=
  Host.exp (mulf (sitofp .f32 (muli half (onLanes two))) (broadcastInDim S1024 ![] bcast_S_S1024 (constant S_ .f32 0xBC135D8E#32)))

/-- The first row of each chunk. -/
def starts : Vec F S20 .f32 := fun i => FloatOps.ofBits .f32 (lit0 (S20.rowMajor i))
/-- The first row of each stripe, counted from its chunk's. -/
def stripes : Vec F S32 .f32 := mulf (sitofp .f32 (iotaInDim S32 32 0)) (broadcastInDim S32 ![] bcast_S_S32 (constant S_ .f32 0x41800000#32))
/-- The rows in a stripe. -/
def inner : Vec F S16 .f32 := sitofp .f32 (iotaInDim S16 32 0)

/-- Row times frequency, for the three families of rows. -/
def angle0 : Vec F S20x1024 .f32 :=
  mulf (broadcastInDim S20x1024 ![0, 1] bcast_S20x1_S20x1024_0_1 (broadcastInDim S20x1 ![0] bcast_S20_S20x1_0 starts))
    (broadcastInDim S20x1024 ![0, 1] bcast_S1x1024_S20x1024_0_1 (broadcastInDim S1x1024 ![1] bcast_S1024_S1x1024_1 freq))
def angle1 : Vec F S32x1024 .f32 :=
  mulf (broadcastInDim S32x1024 ![0, 1] bcast_S32x1_S32x1024_0_1 (broadcastInDim S32x1 ![0] bcast_S32_S32x1_0 stripes))
    (broadcastInDim S32x1024 ![0, 1] bcast_S1x1024_S32x1024_0_1 (broadcastInDim S1x1024 ![1] bcast_S1024_S1x1024_1 freq))
def angle2 : Vec F S16x1024 .f32 :=
  mulf (broadcastInDim S16x1024 ![0, 1] bcast_S16x1_S16x1024_0_1 (broadcastInDim S16x1 ![0] bcast_S16_S16x1_0 inner))
    (broadcastInDim S16x1024 ![0, 1] bcast_S1x1024_S16x1024_0_1 (broadcastInDim S1x1024 ![1] bcast_S1024_S1x1024_1 freq))

/-- One array on the even lanes, the other on the odd ones. -/
def byParity (a b : Vec F S20x1024 .f32) : Vec F S20x1024 .f32 :=
  select (broadcastInDim S20x1024 ![0, 1] bcast_S1x1024_S20x1024_0_1 (broadcastInDim S1x1024 ![1] bcast_S1024_S1x1024_1 even)) a b

/-- The six tables: of the chunk starts the sines on the even lanes and the cosines on the odd ones, and the derivatives
of those; of the stripes and of the rows in a stripe the cosines and the sines. -/
def tableA0 : Vec F S20x1024 .f32 := byParity (Host.sin angle0) (Host.cos angle0)
def tableB0 : Vec F S20x1024 .f32 := byParity (Host.cos angle0) (Host.negf (Host.sin angle0))
def tableC1 : Vec F S32x1024 .f32 := Host.cos angle1
def tableS1 : Vec F S32x1024 .f32 := Host.sin angle1
def tableC2 : Vec F S16x1024 .f32 := Host.cos angle2
def tableS2 : Vec F S16x1024 .f32 := Host.sin angle2

variable (m : (ℓ : Loc nD τ sig) → Buf (Elt F) ℓ) (c : Dev nD)

theorem V_a0 : V m c main_v19 = tableA0 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl
theorem V_b0 : V m c main_v23 = tableB0 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl
theorem V_c1 : V m c main_v32 = tableC1 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl
theorem V_s1 : V m c main_v33 = tableS1 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl
theorem V_c2 : V m c main_v40 = tableC2 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl
theorem V_s2 : V m c main_v41 = tableS2 := by
  show StableHlo.after (List.flatten [hostOps0, hostOps0_1, hostOps0_2, hostOps0_3, hostOps0_4, hostOps0_5, hostOps0_6, hostOps0_7, hostOps0_8]) _ _ = _
  simp only [List.flatten_cons, List.flatten_nil, List.append_nil, List.cons_append, List.nil_append]
  after_reads_simp
  rfl

end Cert.Host
-- ==== Proof.Blocks.lean ====
/-
  Every window of the launch is its whole array: what the launch reads is the table the host built.
-/
module

public import proofs.«01_k».proof.Proof.Host

@[expose] public section

set_option maxRecDepth 16384

noncomputable section

namespace Cert.Host

open Cert.KernelIdeal Cert.KernelIdeal.Gen
open Idealize.ShloMosaic Idealize.ShloMosaic.TcCoe Idealize.ShloMosaic.ValueIdx Idealize.ShloMosaic.StableHlo

variable {F : FTy → Type} [FloatOps F]

/-- Every window starts at its array's first entry. -/
theorem index_zero : win0_0.index t0_0 = (fun _ => 0) ∧ win0_1.index t0_0 = (fun _ => 0) ∧ win0_2.index t0_0 = (fun _ => 0)
    ∧ win0_3.index t0_0 = (fun _ => 0) ∧ win0_4.index t0_0 = (fun _ => 0) ∧ win0_5.index t0_0 = (fun _ => 0) := by
  decide +kernel

theorem whole0 (X : Vec F S20x1024 .f32) : (win0_0.blk t0_0).view.read (Elt F) X = X :=
  Memref.read_access_unit_zero (Elt F) main_v19 (show (fun a => win0_0.index t0_0 a * main_v19.ty.shape.size a) = fun _ => 0 from by
    rw [index_zero.1]; funext a; exact Nat.zero_mul _) (fun a => by fin_cases a <;> decide) X
theorem whole1 (X : Vec F S20x1024 .f32) : (win0_1.blk t0_0).view.read (Elt F) X = X :=
  Memref.read_access_unit_zero (Elt F) main_v23 (show (fun a => win0_1.index t0_0 a * main_v23.ty.shape.size a) = fun _ => 0 from by
    rw [index_zero.2.1]; funext a; exact Nat.zero_mul _) (fun a => by fin_cases a <;> decide) X
theorem whole2 (X : Vec F S32x1024 .f32) : (win0_2.blk t0_0).view.read (Elt F) X = X :=
  Memref.read_access_unit_zero (Elt F) main_v32 (show (fun a => win0_2.index t0_0 a * main_v32.ty.shape.size a) = fun _ => 0 from by
    rw [index_zero.2.2.1]; funext a; exact Nat.zero_mul _) (fun a => by fin_cases a <;> decide) X
theorem whole3 (X : Vec F S32x1024 .f32) : (win0_3.blk t0_0).view.read (Elt F) X = X :=
  Memref.read_access_unit_zero (Elt F) main_v33 (show (fun a => win0_3.index t0_0 a * main_v33.ty.shape.size a) = fun _ => 0 from by
    rw [index_zero.2.2.2.1]; funext a; exact Nat.zero_mul _) (fun a => by fin_cases a <;> decide) X
theorem whole4 (X : Vec F S16x1024 .f32) : (win0_4.blk t0_0).view.read (Elt F) X = X :=
  Memref.read_access_unit_zero (Elt F) main_v40 (show (fun a => win0_4.index t0_0 a * main_v40.ty.shape.size a) = fun _ => 0 from by
    rw [index_zero.2.2.2.2.1]; funext a; exact Nat.zero_mul _) (fun a => by fin_cases a <;> decide) X
theorem whole5 (X : Vec F S16x1024 .f32) : (win0_5.blk t0_0).view.read (Elt F) X = X :=
  Memref.read_access_unit_zero (Elt F) main_v41 (show (fun a => win0_5.index t0_0 a * main_v41.ty.shape.size a) = fun _ => 0 from by
    rw [index_zero.2.2.2.2.2]; funext a; exact Nat.zero_mul _) (fun a => by fin_cases a <;> decide) X

variable (m : (ℓ : Loc nD τ sig) → Buf (Elt F) ℓ) (c : Dev nD)

theorem fetch0 : iblk m c 0 t0_0 = V m c main_v19 := by unfold iblk; exact whole0 (V m c main_v19)
theorem block0 : iblk m c 0 t0_0 = tableA0 := (fetch0 m c).trans (V_a0 m c)
theorem fetch1 : iblk m c 1 t0_0 = V m c main_v23 := by unfold iblk; exact whole1 (V m c main_v23)
theorem block1 : iblk m c 1 t0_0 = tableB0 := (fetch1 m c).trans (V_b0 m c)
theorem fetch2 : iblk m c 2 t0_0 = V m c main_v32 := by unfold iblk; exact whole2 (V m c main_v32)
theorem block2 : iblk m c 2 t0_0 = tableC1 := (fetch2 m c).trans (V_c1 m c)
theorem fetch3 : iblk m c 3 t0_0 = V m c main_v33 := by unfold iblk; exact whole3 (V m c main_v33)
theorem block3 : iblk m c 3 t0_0 = tableS1 := (fetch3 m c).trans (V_s1 m c)
theorem fetch4 : iblk m c 4 t0_0 = V m c main_v40 := by unfold iblk; exact whole4 (V m c main_v40)
theorem block4 : iblk m c 4 t0_0 = tableC2 := (fetch4 m c).trans (V_c2 m c)
theorem fetch5 : iblk m c 5 t0_0 = V m c main_v41 := by unfold iblk; exact whole5 (V m c main_v41)
theorem block5 : iblk m c 5 t0_0 = tableS2 := (fetch5 m c).trans (V_s2 m c)

end Cert.Host
-- ==== Proof.Reads.lean ====
/-
  Entries of arrays: a column or a row spread over a table, two tables interleaved along the lanes, and one stripe of
  the ring's output.
-/
module

public import proofs.«01_k».proof.Proof.Ring.State
public import Idealize.ShloMosaic.Lib.Pipeline.Value
public import Idealize.ShloMosaic.Lib.ValueLayout
public import Idealize.ShloMosaic.Lib.ValueIdx

@[expose] public section

noncomputable section

namespace Cert.Reads

open Idealize.ShloMosaic Idealize.ShloMosaic.TcCoe Idealize.ShloMosaic.ValueIdx

variable {α : Type}

/-- A column spread over a table has, in row `k`, the column's entry `k`. -/
theorem column_apply {n p : ℕ} (hn : n ≠ 1) (x : (⟨1, ![n]⟩ : Shape).Idx → α) (h : (⟨1, ![n]⟩ : Shape).BroadcastsInDim ⟨2, ![n, 1]⟩ ![0])
    (h' : (⟨2, ![n, 1]⟩ : Shape).BroadcastsInDim ⟨2, ![n, p]⟩ ![0, 1]) (k : Fin n) (j : Fin p) :
    broadcastInDim ⟨2, ![n, p]⟩ ![0, 1] h' (broadcastInDim ⟨2, ![n, 1]⟩ ![0] h x) (ix2 k j) = x (ix1 k) := by
  rw [broadcastInDim_apply _ _ _ _ (ix2 k (0 : Fin 1)) fun a => match a with | ⟨0, _⟩ => (if_neg hn).symm | ⟨1, _⟩ => rfl]
  exact broadcastInDim_apply _ _ _ _ (ix1 k) fun a => match a with | ⟨0, _⟩ => (if_neg hn).symm

/-- A row spread over a table has, in lane `j`, the row's entry `j`. -/
theorem row_apply {n p : ℕ} (hp : p ≠ 1) (x : (⟨1, ![p]⟩ : Shape).Idx → α) (h : (⟨1, ![p]⟩ : Shape).BroadcastsInDim ⟨2, ![1, p]⟩ ![1])
    (h' : (⟨2, ![1, p]⟩ : Shape).BroadcastsInDim ⟨2, ![n, p]⟩ ![0, 1]) (k : Fin n) (j : Fin p) :
    broadcastInDim ⟨2, ![n, p]⟩ ![0, 1] h' (broadcastInDim ⟨2, ![1, p]⟩ ![1] h x) (ix2 k j) = x (ix1 j) := by
  rw [broadcastInDim_apply _ _ _ _ (ix2 (0 : Fin 1) j) fun a => match a with | ⟨0, _⟩ => rfl | ⟨1, _⟩ => (if_neg hp).symm]
  exact broadcastInDim_apply _ _ _ _ (ix1 j) fun a => match a with | ⟨0, _⟩ => (if_neg hp).symm

/-- A table given a leading axis of one entry keeps its entries. -/
theorem lift_apply {n p : ℕ} (hn : n ≠ 1) (hp : p ≠ 1) (x : (⟨2, ![n, p]⟩ : Shape).Idx → α)
    (h : (⟨2, ![n, p]⟩ : Shape).BroadcastsInDim ⟨3, ![1, n, p]⟩ ![1, 2]) (u : Fin 1) (k : Fin n) (j : Fin p) :
    broadcastInDim ⟨3, ![1, n, p]⟩ ![1, 2] h x (ix3 u k j) = x (ix2 k j) :=
  broadcastInDim_apply _ _ _ _ (ix2 k j) fun a => match a with | ⟨0, _⟩ => (if_neg hn).symm | ⟨1, _⟩ => (if_neg hp).symm

/-- Two tables stacked on a last axis of two and flattened along it are interleaved: even lanes from the first, odd
lanes from the second. -/
theorem interleave_apply {n p q : ℕ} (hn : n ≠ 1) (hp : p ≠ 1) (hq : q = 2 * p) (x y : (⟨2, ![n, p]⟩ : Shape).Idx → α)
    (h : (⟨2, ![n, p]⟩ : Shape).BroadcastsInDim ⟨3, ![n, p, 1]⟩ ![0, 1])
    (hc : Shape.Concatenates [⟨3, ![n, p, 1]⟩, ⟨3, ![n, p, 1]⟩] ⟨3, ![n, p, 2]⟩ 2)
    (hs : (⟨3, ![n, p, 2]⟩ : Shape).ShapeCasts ⟨2, ![n, q]⟩) (k : Fin n) (j : Fin q) :
    shapeCast ⟨2, ![n, q]⟩ (concatenate ⟨3, ![n, p, 2]⟩ 2 [⟨⟨3, ![n, p, 1]⟩, broadcastInDim ⟨3, ![n, p, 1]⟩ ![0, 1] h x⟩,
        ⟨⟨3, ![n, p, 1]⟩, broadcastInDim ⟨3, ![n, p, 1]⟩ ![0, 1] h y⟩] hc) hs (ix2 k j)
      = if j.val % 2 = 0 then x (ix2 k ⟨j.val / 2, by omega⟩) else y (ix2 k ⟨j.val / 2, by omega⟩) := by
  have e : ∀ (z : (⟨2, ![n, p]⟩ : Shape).Idx → α) (i : Fin p), broadcastInDim ⟨3, ![n, p, 1]⟩ ![0, 1] h z (ix3 k i (0 : Fin 1)) = z (ix2 k i) := fun z i =>
    broadcastInDim_apply _ _ _ _ (ix2 k i) fun a => match a with | ⟨0, _⟩ => (if_neg hn).symm | ⟨1, _⟩ => (if_neg hp).symm
  rw [shapeCast_apply _ hs (ix2 k j) (ix3 k (⟨j.val / 2, by omega⟩ : Fin p) (⟨j.val % 2, Nat.mod_lt _ (by decide)⟩ : Fin 2)) (by
    rw [Shape.rowMajor_val_three, Shape.rowMajor_val_two]
    show (k.val * p + j.val / 2) * 2 + j.val % 2 = k.val * q + j.val
    subst hq
    have := Nat.div_add_mod j.val 2
    have : k.val * (2 * p) = 2 * (k.val * p) := by ring
    omega)]
  split_ifs with hj
  · refine (concatenate_pair_apply_left 2 _ _ hc _ rfl (ix3 k (⟨j.val / 2, by omega⟩ : Fin p) (0 : Fin 1)) fun b => ?_).trans (e x _)
    match b with
    | ⟨0, _⟩ => rfl
    | ⟨1, _⟩ => rfl
    | ⟨2, _⟩ => exact hj.symm
  · refine (concatenate_pair_apply_right 2 _ _ hc _ rfl rfl (ix3 k (⟨j.val / 2, by omega⟩ : Fin p) (0 : Fin 1)) (fun b hb => ?_) ?_).trans (e y _)
    · match b, hb with
      | ⟨0, _⟩, _ => rfl
      | ⟨1, _⟩, _ => rfl
      | ⟨2, _⟩, hb => exact absurd rfl hb
    · show 0 + 1 = j.val % 2
      omega

open Cert.KernelIdeal in
/-- One entry of a stripe. -/
theorem stripe_apply (a b x y : Vec Ideal S1x1024 .f32) (u v : Vec Ideal S16x1024 .f32) (l : Fin 16) (j : Fin 1024) :
    (Cert.Ring.stripe a b x y u v (ix3 0 l j) : EReal)
      = ((a (ix2 0 j) : EReal) * x (ix2 0 j) + (b (ix2 0 j) : EReal) * y (ix2 0 j)) * u (ix2 l j)
        + ((b (ix2 0 j) : EReal) * x (ix2 0 j) - (a (ix2 0 j) : EReal) * y (ix2 0 j)) * v (ix2 l j) := by
  unfold Cert.Ring.stripe
  simp only [shapeCast_self]
  rw [shapeCast_ab_1ab_apply]
  show (_ : EReal) + _ = _
  congr 1
  · show (broadcastTo _ _ _ (ix2 l j) : EReal) * _ = _
    rw [broadcastTo_1b_ab_apply]; rfl
  · show (broadcastTo _ _ _ (ix2 l j) : EReal) * _ = _
    rw [broadcastTo_1b_ab_apply]; rfl

end Cert.Reads
-- ==== Proof.Entries.lean ====
/-
  The entries of the host's tables over the reals: the sine or the cosine of a row number times the lane's frequency.
-/
module

public import proofs.«01_k».proof.Proof.Host
public import proofs.«01_k».proof.Proof.Reads
public import proofs.«01_k».proof.Proof.Ring.Plan
public import Mathlib.Analysis.SpecialFunctions.Trigonometric.Basic

@[expose] public section

set_option maxRecDepth 16384

noncomputable section

namespace Cert.Entries

open Cert.KernelIdeal Cert.KernelIdeal.Gen Cert.Host Cert.Reads
open Idealize.ShloMosaic Idealize.ShloMosaic.TcCoe Idealize.ShloMosaic.ValueIdx

/-- The exponent's constant. -/
def rate : ℝ := -9657742 / 2 ^ 30

theorem rate_eq : (Ideal.ofBits .f32 0xBC135D8E#32 : EReal) = ((rate : ℝ) : EReal) := by
  unfold rate; simp [Ideal.ofBits, Ideal.ieee, -EReal.coe_mul]; norm_num

theorem sixteen_eq : (Ideal.ofBits .f32 0x41800000#32 : EReal) = ((16 : ℝ) : EReal) := by
  simp [Ideal.ofBits, Ideal.ieee, -EReal.coe_mul]; norm_num

theorem two_eq : (Ideal.ofBits .f32 0x40000000#32 : EReal) = ((2 : ℝ) : EReal) := by
  simp [Ideal.ofBits, Ideal.ieee, -EReal.coe_mul]; norm_num

theorem zero_eq : (Ideal.ofBits .f32 0x00000000#32 : EReal) = ((0 : ℝ) : EReal) := by
  simp [Ideal.ofBits, Ideal.ieee, -EReal.coe_mul]

/-- The frequency of lane `j`. -/
def freqAt (j : ℕ) : ℝ := Real.exp ((2 * (j / 2) : ℕ) * rate)

/-- Twice half the lane number. -/
theorem lane_word : ∀ j : Fin 1024, (muli half (onLanes two) (ix1 j)).toInt = (2 * (j.val / 2) : ℕ) := by decide +kernel
/-- The even lanes. -/
theorem even_word : ∀ j : Fin 1024, even (ix1 j) = if j.val % 2 = 0 then 1#1 else 0#1 := by decide +kernel
/-- The stripe numbers and the row numbers. -/
theorem stripe_word : ∀ d : Fin 32, (iotaInDim S32 32 0 (ix1 d)).toInt = (d.val : ℕ) := by decide +kernel
theorem inner_word : ∀ l : Fin 16, (iotaInDim S16 32 0 (ix1 l)).toInt = (l.val : ℕ) := by decide +kernel

theorem freq_apply (j : Fin 1024) : (freq (F := Ideal) (ix1 j) : EReal) = ((freqAt j.val : ℝ) : EReal) := by
  show Ideal.exp ((((muli half (onLanes two) (ix1 j)).toInt : ℝ) : EReal) * Ideal.ofBits .f32 0xBC135D8E#32) = _
  rw [lane_word, rate_eq, ← EReal.coe_mul, Ideal.exp_coe]; rfl

theorem starts_apply (k : Fin 20) : (starts (F := Ideal) (ix1 k) : EReal) = ((Ring.start k.val : ℝ) : EReal) := by
  show (Ideal.ofBits .f32 (lit0 (S20.rowMajor (ix1 k))) : EReal) = _
  have h : ∀ k : Fin 20, lit0 (S20.rowMajor (ix1 k)) = lit0 ⟨k.val, k.isLt⟩ := by decide +kernel
  rw [h]
  fin_cases k <;> simp [lit0, Ring.start, Ideal.ofBits, Ideal.ieee, -EReal.coe_mul] <;> norm_num

theorem stripes_apply (d : Fin 32) : (stripes (F := Ideal) (ix1 d) : EReal) = ((16 * d.val : ℕ) : ℝ) := by
  show ((((iotaInDim S32 32 0 (ix1 d)).toInt : ℝ) : EReal) * Ideal.ofBits .f32 0x41800000#32) = _
  rw [stripe_word, sixteen_eq, ← EReal.coe_mul]; congr 1; push_cast; ring

theorem inner_apply (l : Fin 16) : (inner (F := Ideal) (ix1 l) : EReal) = ((l.val : ℕ) : ℝ) := by
  show (((iotaInDim S16 32 0 (ix1 l)).toInt : ℝ) : EReal) = _
  rw [inner_word]; rfl

/-- The three tables of angles. -/
theorem angle0_apply (k : Fin 20) (j : Fin 1024) : (angle0 (F := Ideal) (ix2 k j) : EReal) = ((Ring.start k.val * freqAt j.val : ℝ) : EReal) := by
  show (_ : EReal) * _ = _
  rw [column_apply (by decide), row_apply (by decide), starts_apply, freq_apply, EReal.coe_mul]
theorem angle1_apply (d : Fin 32) (j : Fin 1024) : (angle1 (F := Ideal) (ix2 d j) : EReal) = (((16 * d.val : ℕ) * freqAt j.val : ℝ) : EReal) := by
  show (_ : EReal) * _ = _
  rw [column_apply (by decide), row_apply (by decide), stripes_apply, freq_apply, EReal.coe_mul]
theorem angle2_apply (l : Fin 16) (j : Fin 1024) : (angle2 (F := Ideal) (ix2 l j) : EReal) = (((l.val : ℕ) * freqAt j.val : ℝ) : EReal) := by
  show (_ : EReal) * _ = _
  rw [column_apply (by decide), row_apply (by decide), inner_apply, freq_apply, EReal.coe_mul]

theorem byParity_apply (a b : Vec Ideal S20x1024 .f32) (k : Fin 20) (j : Fin 1024) :
    byParity a b (ix2 k j) = if j.val % 2 = 0 then a (ix2 k j) else b (ix2 k j) := by
  unfold byParity
  show (if broadcastInDim _ _ _ _ (ix2 k j) = 1#1 then _ else _) = _
  rw [row_apply (by decide), even_word]
  by_cases h : j.val % 2 = 0
  · rw [if_pos h, if_pos h, if_pos rfl]
  · rw [if_neg h, if_neg h, if_neg (by decide)]

/-- The tables of the chunk starts: a sine on the even lanes and a cosine on the odd ones, and the derivative of that. -/
theorem a0_apply (k : Fin 20) (j : Fin 1024) : (tableA0 (F := Ideal) (ix2 k j) : EReal)
    = ((if j.val % 2 = 0 then Real.sin (Ring.start k.val * freqAt j.val) else Real.cos (Ring.start k.val * freqAt j.val) : ℝ) : EReal) := by
  unfold tableA0; rw [byParity_apply]
  split_ifs
  · show Ideal.sin (angle0 (F := Ideal) (ix2 k j)) = _
    rw [angle0_apply, Ideal.sin_coe]
  · show Ideal.cos (angle0 (F := Ideal) (ix2 k j)) = _
    rw [angle0_apply, Ideal.cos_coe]
theorem b0_apply (k : Fin 20) (j : Fin 1024) : (tableB0 (F := Ideal) (ix2 k j) : EReal)
    = ((if j.val % 2 = 0 then Real.cos (Ring.start k.val * freqAt j.val) else -Real.sin (Ring.start k.val * freqAt j.val) : ℝ) : EReal) := by
  unfold tableB0; rw [byParity_apply]
  split_ifs
  · show Ideal.cos (angle0 (F := Ideal) (ix2 k j)) = _
    rw [angle0_apply, Ideal.cos_coe]
  · show -Ideal.sin (angle0 (F := Ideal) (ix2 k j)) = _
    rw [angle0_apply, Ideal.sin_coe, EReal.coe_neg]
theorem c1_apply (d : Fin 32) (j : Fin 1024) : (tableC1 (F := Ideal) (ix2 d j) : EReal) = (Real.cos ((16 * d.val : ℕ) * freqAt j.val) : ℝ) := by
  show Ideal.cos (angle1 (F := Ideal) (ix2 d j)) = _
  rw [angle1_apply, Ideal.cos_coe]
theorem s1_apply (d : Fin 32) (j : Fin 1024) : (tableS1 (F := Ideal) (ix2 d j) : EReal) = (Real.sin ((16 * d.val : ℕ) * freqAt j.val) : ℝ) := by
  show Ideal.sin (angle1 (F := Ideal) (ix2 d j)) = _
  rw [angle1_apply, Ideal.sin_coe]
theorem c2_apply (l : Fin 16) (j : Fin 1024) : (tableC2 (F := Ideal) (ix2 l j) : EReal) = (Real.cos ((l.val : ℕ) * freqAt j.val) : ℝ) := by
  show Ideal.cos (angle2 (F := Ideal) (ix2 l j)) = _
  rw [angle2_apply, Ideal.cos_coe]
theorem s2_apply (l : Fin 16) (j : Fin 1024) : (tableS2 (F := Ideal) (ix2 l j) : EReal) = (Real.sin ((l.val : ℕ) * freqAt j.val) : ℝ) := by
  show Ideal.sin (angle2 (F := Ideal) (ix2 l j)) = _
  rw [angle2_apply, Ideal.sin_coe]

end Cert.Entries
-- ==== Proof.Addition.lean ====
/-
  What the ring computes over the reals: the chunk start, the stripe offset and the row in the stripe add up to the row,
  so by the angle addition, used twice, the entry is the sine or the cosine of the row times the lane's frequency.
-/
module

public import proofs.«01_k».proof.Proof.Entries
public import proofs.«01_k».proof.Proof.Ring.Launch

@[expose] public section

noncomputable section

namespace Cert.Addition

open Cert.KernelIdeal Cert.KernelIdeal.Gen Cert.Host Cert.Reads Cert.Entries Cert.Ring
open Idealize.ShloMosaic Idealize.ShloMosaic.TcCoe Idealize.ShloMosaic.ValueIdx

/-- The entry at row `r` and lane `j`. -/
def entry (r j : ℕ) : ℝ := if j % 2 = 0 then Real.sin (r * freqAt j) else Real.cos (r * freqAt j)

/-- The sine of a sum of three angles, and the cosine. -/
theorem sin_three (p q r : ℝ) : (Real.sin p * Real.cos q + Real.cos p * Real.sin q) * Real.cos r
    + (Real.cos p * Real.cos q - Real.sin p * Real.sin q) * Real.sin r = Real.sin (p + q + r) := by
  rw [Real.sin_add, Real.sin_add, Real.cos_add]
theorem cos_three (p q r : ℝ) : (Real.cos p * Real.cos q + -Real.sin p * Real.sin q) * Real.cos r
    + (-Real.sin p * Real.cos q - Real.cos p * Real.sin q) * Real.sin r = Real.cos (p + q + r) := by
  rw [Real.cos_add, Real.sin_add, Real.cos_add]; ring

/-- A row is its chunk's start, plus whole stripes, plus the rest. -/
theorem row_split {r : ℕ} (h : r < 8192) :
    start (chunkOf r % 20) + 16 * ((r - start (chunkOf r)) / 16 % 32) + (r - start (chunkOf r)) % 16 = r := by
  obtain ⟨h1, h2, h3⟩ := chunkOf_spec h
  have h4 := len_le (chunkOf r)
  rw [Nat.mod_eq_of_lt h1]
  omega

theorem tableRow_apply {n : ℕ} (A : Vec Ideal ⟨2, ![n, 1024]⟩ .f32) (k : Fin n) (j : Fin 1024) : tableRow A k (ix2 0 j) = A (ix2 k j) := rfl

theorem ring_apply (r : Fin 8192) (j : Fin 1024) :
    (ringFrom (F := Ideal) tableA0 tableB0 tableC1 tableS1 tableC2 tableS2 (ix2 r j) : EReal) = ((entry r.val j.val : ℝ) : EReal) := by
  unfold ringFrom
  rw [stripe_apply]
  simp only [tableRow_apply]
  rw [a0_apply, b0_apply, c1_apply, s1_apply, c2_apply, s2_apply]
  simp only [← EReal.coe_mul, ← EReal.coe_add, ← EReal.coe_sub]
  congr 1
  have e := row_split r.isLt
  have e' : ((start (chunkOf r.val % 20) : ℕ) : ℝ) * freqAt j.val + ((16 * ((r.val - start (chunkOf r.val)) / 16 % 32) : ℕ) : ℝ) * freqAt j.val
      + (((r.val - start (chunkOf r.val)) % 16 : ℕ) : ℝ) * freqAt j.val = (r.val : ℝ) * freqAt j.val := by
    rw [← add_mul, ← add_mul, ← Nat.cast_add, ← Nat.cast_add, e]
  unfold entry
  rw [← e']
  split_ifs
  · exact sin_three _ _ _
  · exact cos_three _ _ _

end Cert.Addition
-- ==== Proof.Table.lean ====
/-
  The table of sines and cosines the claims compare with: its entry at a row and a lane is the sine or the cosine of the
  row times the lane's frequency.
-/
module

public import proofs.«01_k».proof.Proof.Addition
public import proofs.«01_k».proof.Proof.Gen.TableIdeal.Run

@[expose] public section

set_option maxRecDepth 16384

noncomputable section

namespace Cert.Table

open Cert.TableIdeal Cert.TableIdeal.Gen Cert.Reads Cert.Entries Cert.Addition
open Idealize.ShloMosaic Idealize.ShloMosaic.TcCoe Idealize.ShloMosaic.ValueIdx

variable {F : FTy → Type} [FloatOps F]

/-- The frequency of each pair of lanes. -/
def freqs : Vec F S512 .f32 :=
  Host.exp (mulf (addf (broadcastInDim S512 ![] bcast_S_S512 (constant S_ .f32 0x00000000#32))
    (mulf (broadcastInDim S512 ![] bcast_S_S512 (constant S_ .f32 0x40000000#32)) (sitofp .f32 (iotaInDim S512 32 0))))
    (broadcastInDim S512 ![] bcast_S_S512 (constant S_ .f32 0xBC135D8E#32)))

/-- The rows. -/
def rows : Vec F S8192 .f32 := sitofp .f32 (iotaInDim S8192 32 0)

/-- Row times frequency. -/
def angles : Vec F S8192x512 .f32 :=
  mulf (broadcastInDim S8192x512 ![0, 1] bcast_S8192x1_S8192x512_0_1 (broadcastInDim S8192x1 ![0] bcast_S8192_S8192x1_0 rows))
    (broadcastInDim S8192x512 ![0, 1] bcast_S1x512_S8192x512_0_1 (broadcastInDim S1x512 ![1] bcast_S512_S1x512_1 freqs))

/-- The sines and the cosines. -/
def sines : Vec F S8192x512 .f32 := Host.sin angles
def cosines : Vec F S8192x512 .f32 := Host.cos angles

/-- The table: the sines on the even lanes, the cosines on the odd ones. -/
def flat : Vec F S8192x1024 .f32 :=
  shapeCast S8192x1024 (concatenate S8192x512x2 2 [⟨S8192x512x1, broadcastInDim S8192x512x1 ![0, 1] bcast_S8192x512_S8192x512x1_0_1 sines⟩,
    ⟨S8192x512x1, broadcastInDim S8192x512x1 ![0, 1] bcast_S8192x512_S8192x512x1_0_1 cosines⟩] concatenates_S8192x512x1_S8192x512x1_S8192x512x2_d2)
    shapeCasts_S8192x512x2_S8192x1024
def table : Vec F S1x8192x1024 .f32 := broadcastInDim S1x8192x1024 ![1, 2] bcast_S8192x1024_S1x8192x1024_1_2 flat

theorem pair_word : ∀ i : Fin 512, (iotaInDim S512 32 0 (ix1 i)).toInt = (i.val : ℕ) := by decide +kernel

theorem row_word (r : Fin 8192) : (iotaInDim S8192 32 0 (ix1 r)).toInt = (r.val : ℕ) := by
  show (BitVec.ofNat 32 r.val).toInt = _
  have := r.isLt
  rw [BitVec.toInt_ofNat']
  have e : ((r.val : ℤ)).bmod (2 ^ 32) = r.val := by rw [Int.bmod_def]; omega
  simpa using e

theorem freqs_apply (i : Fin 512) : (freqs (F := Ideal) (ix1 i) : EReal) = ((Real.exp ((2 * i.val : ℕ) * rate) : ℝ) : EReal) := by
  show Ideal.exp (((Ideal.ofBits .f32 0x00000000#32 : EReal) + (Ideal.ofBits .f32 0x40000000#32 : EReal) * (((iotaInDim S512 32 0 (ix1 i)).toInt : ℝ) : EReal))
    * Ideal.ofBits .f32 0xBC135D8E#32) = _
  rw [pair_word, rate_eq, two_eq, zero_eq, ← EReal.coe_mul, ← EReal.coe_add, ← EReal.coe_mul, Ideal.exp_coe]
  congr 3; push_cast; ring

theorem angles_apply (r : Fin 8192) (i : Fin 512) : (angles (F := Ideal) (ix2 r i) : EReal) = ((r.val * Real.exp ((2 * i.val : ℕ) * rate) : ℝ) : EReal) := by
  show (_ : EReal) * _ = _
  rw [column_apply (by decide), row_apply (by decide), freqs_apply]
  show (((iotaInDim S8192 32 0 (ix1 r)).toInt : ℝ) : EReal) * _ = _
  rw [row_word, EReal.coe_mul]; rfl

theorem flat_apply (r : Fin 8192) (j : Fin 1024) : (flat (F := Ideal) (ix2 r j) : EReal) = ((entry r.val j.val : ℝ) : EReal) := by
  unfold flat
  refine (interleave_apply (n := 8192) (p := 512) (q := 1024) (by decide) (by decide) rfl sines cosines bcast_S8192x512_S8192x512x1_0_1
    concatenates_S8192x512x1_S8192x512x1_S8192x512x2_d2 shapeCasts_S8192x512x2_S8192x1024 r j).trans ?_
  unfold entry freqAt
  split_ifs
  · show Ideal.sin (angles (F := Ideal) _) = _
    rw [angles_apply, Ideal.sin_coe]
  · show Ideal.cos (angles (F := Ideal) _) = _
    rw [angles_apply, Ideal.cos_coe]

end Cert.Table
-- ==== Proof.Equation.lean ====
/-
  The kernel's result is the table, entry by entry.
-/
module

public import proofs.«01_k».proof.Proof.Blocks
public import proofs.«01_k».proof.Proof.Table

@[expose] public section

set_option maxRecDepth 16384

noncomputable section

namespace Cert.Equation

open Idealize.ShloMosaic Idealize.ShloMosaic.TcCoe Idealize.ShloMosaic.ValueIdx
open Cert.KernelIdeal Cert.KernelIdeal.Gen

/-- The ring's output is the table before its leading axis is put in front. -/
theorem flat_eq : Ring.ringFrom (F := Ideal) Host.tableA0 Host.tableB0 Host.tableC1 Host.tableS1 Host.tableC2 Host.tableS2 = Table.flat (F := Ideal) := by
  funext i
  rw [eq_ix2 i]
  exact (Addition.ring_apply (i 0) (i 1)).trans (Table.flat_apply (i 0) (i 1)).symm

/-- Whatever the arguments hold, the kernel's result is the table. -/
theorem result_eq (m : (ℓ : Loc nD τ sig) → Buf (Elt Ideal) ℓ) (c : Dev nD) : Ring.result (F := Ideal) m c = Table.table (F := Ideal) := by
  unfold Ring.result
  rw [Host.block0, Host.block1, Host.block2, Host.block3, Host.block4, Host.block5, flat_eq]
  rfl

end Cert.Equation
-- ==== Proof.Claims.lean ====
/-
  The two claims about values: the kernel computes the table, and where the second argument is that table the kernel
  returns what the reference returns.
-/
module

public import proofs.«01_k».proof.Proof.Frames
public import proofs.«01_k».proof.Proof.Equation

@[expose] public section

set_option maxRecDepth 100000

noncomputable section

namespace Cert.Claims

open Idealize.ShloMosaic Idealize.ShloMosaic.TcCoe Idealize.SL.Sem

attribute [local instance] Cert.Kernel.Gen.facts Cert.KernelIdeal.Gen.facts Cert.ReferenceIdeal.Gen.facts Cert.TableIdeal.Gen.facts Cert.Pre_pe_is_table.Gen.facts

/-- The kernel ends with the table in its result. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v43) = Table.table (F := Ideal)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun _ h c => ⟨(h.1 c).2.2.trans (Equation.result_eq m c), (h.1 c).1, (h.1 c).2.1⟩) (Cert.Ring.run (F := Ideal) m g)

/-- The kernel computes the table. -/
theorem computes_table : Cert.algebraic_KernelIdeal_TableIdeal := fun m g m' g' _ _ =>
  ⟨fun _ => Table.table (F := Ideal), kernel_run m g,
    (θ_run _ _ _).mono (fun _ h c => ⟨(h c).1.trans rfl, (h c).2.1, (h c).2.2⟩) (Cert.TableIdeal.Value.run (F := Ideal) m' g')⟩

/-- What the precondition says of the second argument: it is the table. -/
theorem pre_eq (x : FVec Ideal Cert.Pre_pe_is_table.S4x8192x1024 .f32) (pe : FVec Ideal Cert.Pre_pe_is_table.S1x8192x1024 .f32)
    (h : Cert.Pre_pe_is_table.fn (F := Ideal) x pe = fun _ => 1#1) : pe = Table.table (F := Ideal) := by
  funext i
  have e : Ideal.cmp .oeq (pe i) (Table.table (F := Ideal) i) = 1#1 := congrFun h i
  by_contra hne
  have : Ideal.cmp .oeq (pe i) (Table.table (F := Ideal) i) = 0#1 := by
    show BitVec.ofBool (decide ((pe i : EReal) = Table.table (F := Ideal) i)) = 0#1
    rw [decide_eq_false hne]; rfl
  rw [this] at e
  exact absurd e (by decide)

/-- Where the second argument is the table, the kernel's result is the reference's. -/
theorem agrees_with_reference : Cert.algebraic_KernelIdeal_ReferenceIdeal_pre_pe_is_table := fun m g m' g' hp ha =>
  ⟨fun _ => Table.table (F := Ideal), kernel_run m g,
    (θ_run _ _ _).mono (fun _ h c => ⟨(h c Cert.ReferenceIdeal.main_arg1).trans ((ha c).2.trans (pre_eq _ _ (hp c))),
      h c Cert.ReferenceIdeal.main_arg0, h c Cert.ReferenceIdeal.main_arg1⟩) (Frames.reference_run (F := Ideal) m' g')⟩

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.TableIdeal
public import proofs.«01_k».proof.Proof.Gen.ReferenceIdeal
public import proofs.«01_k».proof.Proof.Gen.Pre_pe_is_table
public import proofs.«01_k».proof.Proof.Gen.TableIdeal.Run
public import proofs.«01_k».proof.Proof.Ring.Launch
public import proofs.«01_k».proof.Proof.Frames
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.TableIdeal.Gen.facts, Cert.ReferenceIdeal.Gen.facts, Cert.Pre_pe_is_table.Gen.facts,
  Cert.Frames.kernel, Cert.Frames.kernelIdeal, Cert.Frames.kernelIdeal_pre, Cert.Frames.tableIdeal, Cert.Frames.referenceIdeal,
  Cert.Frames.referenceIdeal_pre, trivial, Cert.Claims.computes_table, Cert.Claims.agrees_with_reference⟩

end Cert.Proof

end
